-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x3072 : Shape := ⟨3, ![2, 512, 3072]⟩
abbrev S2x512x8192 : Shape := ⟨3, ![2, 512, 8192]⟩
abbrev S8192x1536 : Shape := ⟨2, ![8192, 1536]⟩
abbrev S8192x24 : Shape := ⟨2, ![8192, 24]⟩
abbrev S3072x16 : Shape := ⟨2, ![3072, 16]⟩
abbrev S16x8192 : Shape := ⟨2, ![16, 8192]⟩
abbrev S16x3072 : Shape := ⟨2, ![16, 3072]⟩
abbrev S16x6x256x2 : Shape := ⟨4, ![16, 6, 256, 2]⟩
abbrev S16x6x2x256 : Shape := ⟨4, ![16, 6, 2, 256]⟩
abbrev S1024x3072 : Shape := ⟨2, ![1024, 3072]⟩
abbrev S1024x8192 : Shape := ⟨2, ![1024, 8192]⟩
abbrev S24x8192 : Shape := ⟨2, ![24, 8192]⟩
abbrev S16x1024 : Shape := ⟨2, ![16, 1024]⟩
abbrev S8192x256 : Shape := ⟨2, ![8192, 256]⟩
abbrev S16x512 : Shape := ⟨2, ![16, 512]⟩
abbrev S1024x512 : Shape := ⟨2, ![1024, 512]⟩
abbrev S8192x128 : Shape := ⟨2, ![8192, 128]⟩
abbrev S1024x16 : Shape := ⟨2, ![1024, 16]⟩
abbrev S24x128 : Shape := ⟨2, ![24, 128]⟩
abbrev S104x128 : Shape := ⟨2, ![104, 128]⟩
abbrev S128x128 : Shape := ⟨2, ![128, 128]⟩
abbrev S1024x256 : Shape := ⟨2, ![1024, 256]⟩
abbrev S1024x128 : Shape := ⟨2, ![1024, 128]⟩
abbrev S256x256 : Shape := ⟨2, ![256, 256]⟩
abbrev S1024x128x1 : Shape := ⟨3, ![1024, 128, 1]⟩
abbrev S1024x1024 : Shape := ⟨2, ![1024, 1024]⟩
abbrev S16x256 : Shape := ⟨2, ![16, 256]⟩
abbrev S2x512x16 : Shape := ⟨3, ![2, 512, 16]⟩

abbrev nBuf : Space → Nat
  | .hbm => 24
  | .vmem => 18
  | .smem => 0
  | _ => 0

abbrev bufTy : (tb : Table) → Fin (tcTables nBuf tb) → BufTy
  | .hbm, ⟨0, _⟩ => ⟨S2x512x3072, .bf16⟩
  | .hbm, ⟨1, _⟩ => ⟨S2x512x8192, .bf16⟩
  | .hbm, ⟨2, _⟩ => ⟨S8192x1536, .i8⟩
  | .hbm, ⟨3, _⟩ => ⟨S8192x24, .bf16⟩
  | .hbm, ⟨4, _⟩ => ⟨S3072x16, .bf16⟩
  | .hbm, ⟨5, _⟩ => ⟨S16x8192, .bf16⟩
  | .hbm, ⟨6, _⟩ => ⟨S16x3072, .bf16⟩
  | .hbm, ⟨7, _⟩ => ⟨S16x6x256x2, .bf16⟩
  | .hbm, ⟨8, _⟩ => ⟨S16x6x2x256, .bf16⟩
  | .hbm, ⟨9, _⟩ => ⟨S16x3072, .bf16⟩
  | .hbm, ⟨10, _⟩ => ⟨S1024x3072, .bf16⟩
  | .hbm, ⟨11, _⟩ => ⟨S1024x8192, .bf16⟩
  | .hbm, ⟨12, _⟩ => ⟨S24x8192, .bf16⟩
  | .hbm, ⟨13, _⟩ => ⟨S1024x3072, .bf16⟩
  | .hbm, ⟨14, _⟩ => ⟨S16x3072, .f32⟩
  | .hbm, ⟨15, _⟩ => ⟨S16x8192, .f32⟩
  | .hbm, ⟨16, _⟩ => ⟨S16x1024, .bf16⟩
  | .hbm, ⟨17, _⟩ => ⟨S16x1024, .bf16⟩
  | .hbm, ⟨18, _⟩ => ⟨S2x512x3072, .bf16⟩
  | .hbm, ⟨19, _⟩ => ⟨S3072x16, .f32⟩
  | .hbm, ⟨20, _⟩ => ⟨S1024x16, .bf16⟩
  | .hbm, ⟨21, _⟩ => ⟨S2x512x16, .bf16⟩
  | .hbm, ⟨22, _⟩ => ⟨S1024x16, .bf16⟩
  | .hbm, ⟨23, _⟩ => ⟨S2x512x16, .bf16⟩
  | .local _ .vmem, ⟨0, _⟩ => ⟨S1024x3072, .bf16⟩
  | .local _ .vmem, ⟨1, _⟩ => ⟨S1024x8192, .bf16⟩
  | .local _ .vmem, ⟨2, _⟩ => ⟨S8192x256, .i8⟩
  | .local _ .vmem, ⟨3, _⟩ => ⟨S8192x256, .i8⟩
  | .local _ .vmem, ⟨4, _⟩ => ⟨S24x8192, .bf16⟩
  | .local _ .vmem, ⟨5, _⟩ => ⟨S16x3072, .bf16⟩
  | .local _ .vmem, ⟨6, _⟩ => ⟨S16x512, .bf16⟩
  | .local _ .vmem, ⟨7, _⟩ => ⟨S16x512, .bf16⟩
  | .local _ .vmem, ⟨8, _⟩ => ⟨S16x8192, .bf16⟩
  | .local _ .vmem, ⟨9, _⟩ => ⟨S1024x512, .bf16⟩
  | .local _ .vmem, ⟨10, _⟩ => ⟨S1024x512, .bf16⟩
  | .local _ .vmem, ⟨11, _⟩ => ⟨S16x3072, .f32⟩
  | .local _ .vmem, ⟨12, _⟩ => ⟨S16x8192, .f32⟩
  | .local _ .vmem, ⟨13, _⟩ => ⟨S16x1024, .bf16⟩
  | .local _ .vmem, ⟨14, _⟩ => ⟨S16x1024, .bf16⟩
  | .local _ .vmem, ⟨15, _⟩ => ⟨S1024x512, .f32⟩
  | .local _ .vmem, ⟨16, _⟩ => ⟨S8192x128, .bf16⟩
  | .local _ .vmem, ⟨17, _⟩ => ⟨S1024x16, .bf16⟩
  | _, _ => ⟨S2x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_2 : BitVec 32 := 0#32
  let c8_i32 : BitVec 32 := 8#32
  let v7 : BitVec 32 := Scalar.addi c0_i32_2 c8_i32
  let c1_i32 : BitVec 32 := 1#32
  ⟨c0_i32_2, v7, c1_i32⟩
def k0_mult1 (k0_t1 : Fin k0_t1_loop.trips) : BitVec 32 :=
  let c0_i32_50 : BitVec 32 := 0#32
  let c0_i32_2 : BitVec 32 := 0#32
  let c1_i32 : BitVec 32 := 1#32
  let arg16 : BitVec 32 := Scf.iv c0_i32_2 c1_i32 k0_t1
  let c1_i32_49 : BitVec 32 := 1#32
  let v134 : BitVec 32 := Scalar.muli arg16 c1_i32_49
  let v135 : BitVec 32 := Scalar.addi c0_i32_50 v134
  let c1024_i32 : BitVec 32 := 1024#32
  let v136 : BitVec 32 := Scalar.muli v135 c1024_i32
  v136
def k0_off1 (k0_t1 : Fin k0_t1_loop.trips) : Fin 2 → Nat :=
  let c0_i32_50 : BitVec 32 := 0#32
  let c0_i32_2 : BitVec 32 := 0#32
  let c1_i32 : BitVec 32 := 1#32
  let arg16 : BitVec 32 := Scf.iv c0_i32_2 c1_i32 k0_t1
  let c1_i32_49 : BitVec 32 := 1#32
  let v134 : BitVec 32 := Scalar.muli arg16 c1_i32_49
  let v135 : BitVec 32 := Scalar.addi c0_i32_50 v134
  let c1024_i32 : BitVec 32 := 1024#32
  let v136 : BitVec 32 := Scalar.muli v135 c1024_i32
  let v137 : BitVec 32 := v136
  let v138 : Index := Scalar.indexCast v137
  let c0_51 : Index := 0#32
  ![v138.toNat, 0]
def k0_off2 (k0_t1 : Fin k0_t1_loop.trips) : Fin 2 → Nat :=
  let c0_i32_50 : BitVec 32 := 0#32
  let c0_i32_2 : BitVec 32 := 0#32
  let c1_i32 : BitVec 32 := 1#32
  let arg16 : BitVec 32 := Scf.iv c0_i32_2 c1_i32 k0_t1
  let c1_i32_49 : BitVec 32 := 1#32
  let v134 : BitVec 32 := Scalar.muli arg16 c1_i32_49
  let v135 : BitVec 32 := Scalar.addi c0_i32_50 v134
  let c1024_i32 : BitVec 32 := 1024#32
  let v136 : BitVec 32 := Scalar.muli v135 c1024_i32
  let v137 : BitVec 32 := v136
  let v140 : Index := Scalar.indexCast v137
  let c0_52 : Index := 0#32
  ![v140.toNat, 0]
def k0_off3 (k0_t1 : Fin k0_t1_loop.trips) : Fin 2 → Nat :=
  let c0_76 : Index := 0#32
  let c0_i32_50 : BitVec 32 := 0#32
  let c0_i32_2 : BitVec 32 := 0#32
  let c1_i32 : BitVec 32 := 1#32
  let arg16 : BitVec 32 := Scf.iv c0_i32_2 c1_i32 k0_t1
  let c1_i32_49 : BitVec 32 := 1#32
  let v134 : BitVec 32 := Scalar.muli arg16 c1_i32_49
  let v135 : BitVec 32 := Scalar.addi c0_i32_50 v134
  let c1024_i32 : BitVec 32 := 1024#32
  let v136 : BitVec 32 := Scalar.muli v135 c1024_i32
  let v137 : BitVec 32 := v136
  let v237 : Index := Scalar.indexCast v137
  ![0, v237.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x512x3072 : Shape := ⟨3, ![2, 512, 3072]⟩
abbrev S2x512x8192 : Shape := ⟨3, ![2, 512, 8192]⟩
abbrev S8192x1536 : Shape := ⟨2, ![8192, 1536]⟩
abbrev S8192x24 : Shape := ⟨2, ![8192, 24]⟩
abbrev S3072x16 : Shape := ⟨2, ![3072, 16]⟩
abbrev S16x8192 : Shape := ⟨2, ![16, 8192]⟩
abbrev S_ : Shape := ⟨0, ![]⟩
abbrev S1024x3072 : Shape := ⟨2, ![1024, 3072]⟩
abbrev S1024x8192 : Shape := ⟨2, ![1024, 8192]⟩
abbrev S8192x24x64 : Shape := ⟨3, ![8192, 24, 64]⟩
abbrev S8192x24x1 : Shape := ⟨3, ![8192, 24, 1]⟩
abbrev S1024x1536 : Shape := ⟨2, ![1024, 1536]⟩
abbrev S1024x1536x1 : Shape := ⟨3, ![1024, 1536, 1]⟩
abbrev S1024x1536x2 : Shape := ⟨3, ![1024, 1536, 2]⟩
abbrev S1024x16 : Shape := ⟨2, ![1024, 16]⟩
abbrev S2x512x16 : Shape := ⟨3, ![2, 512, 16]⟩

abbrev nBuf : Space → Nat
  | .hbm => 68
  | .vmem => 0
  | .smem => 0
  | _ => 0

abbrev bufTy : (tb : Table) → Fin (tcTables nBuf tb) → BufTy
  | .hbm, ⟨0, _⟩ => ⟨S2x512x3072, .bf16⟩
  | .hbm, ⟨1, _⟩ => ⟨S2x512x8192, .bf16⟩
  | .hbm, ⟨2, _⟩ => ⟨S8192x1536, .i8⟩
  | .hbm, ⟨3, _⟩ => ⟨S8192x24, .bf16⟩
  | .hbm, ⟨4, _⟩ => ⟨S3072x16, .bf16⟩
  | .hbm, ⟨5, _⟩ => ⟨S16x8192, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x3072, .bf16⟩
  | .hbm, ⟨10, _⟩ => ⟨S1024x8192, .bf16⟩
  | .hbm, ⟨11, _⟩ => ⟨S8192x1536, .i32⟩
  | .hbm, ⟨12, _⟩ => ⟨S_, .i32⟩
  | .hbm, ⟨13, _⟩ => ⟨S8192x1536, .i32⟩
  | .hbm, ⟨14, _⟩ => ⟨S8192x1536, .i32⟩
  | .hbm, ⟨15, _⟩ => ⟨S_, .i32⟩
  | .hbm, ⟨16, _⟩ => ⟨S8192x1536, .i32⟩
  | .hbm, ⟨17, _⟩ => ⟨S8192x1536, .i1⟩
  | .hbm, ⟨18, _⟩ => ⟨S_, .i32⟩
  | .hbm, ⟨19, _⟩ => ⟨S8192x1536, .i32⟩
  | .hbm, ⟨20, _⟩ => ⟨S8192x1536, .i32⟩
  | .hbm, ⟨21, _⟩ => ⟨S8192x1536, .i32⟩
  | .hbm, ⟨22, _⟩ => ⟨S_, .i32⟩
  | .hbm, ⟨23, _⟩ => ⟨S8192x1536, .i32⟩
  | .hbm, ⟨24, _⟩ => ⟨S8192x1536, .i32⟩
  | .hbm, ⟨25, _⟩ => ⟨S_, .i32⟩
  | .hbm, ⟨26, _⟩ => ⟨S8192x1536, .i32⟩
  | .hbm, ⟨27, _⟩ => ⟨S8192x1536, .i1⟩
  | .hbm, ⟨28, _⟩ => ⟨S_, .i32⟩
  | .hbm, ⟨29, _⟩ => ⟨S8192x1536, .i32⟩
  | .hbm, ⟨30, _⟩ => ⟨S8192x1536, .i32⟩
  | .hbm, ⟨31, _⟩ => ⟨S8192x1536, .i32⟩
  | .hbm, ⟨32, _⟩ => ⟨S8192x1536, .bf16⟩
  | .hbm, ⟨33, _⟩ => ⟨S8192x24x64, .bf16⟩
  | .hbm, ⟨34, _⟩ => ⟨S8192x24x1, .bf16⟩
  | .hbm, ⟨35, _⟩ => ⟨S8192x24x64, .bf16⟩
  | .hbm, ⟨36, _⟩ => ⟨S8192x24x64, .bf16⟩
  | .hbm, ⟨37, _⟩ => ⟨S8192x1536, .bf16⟩
  | .hbm, ⟨38, _⟩ => ⟨S8192x1536, .bf16⟩
  | .hbm, ⟨39, _⟩ => ⟨S8192x24x64, .bf16⟩
  | .hbm, ⟨40, _⟩ => ⟨S8192x24x1, .bf16⟩
  | .hbm, ⟨41, _⟩ => ⟨S8192x24x64, .bf16⟩
  | .hbm, ⟨42, _⟩ => ⟨S8192x24x64, .bf16⟩
  | .hbm, ⟨43, _⟩ => ⟨S8192x1536, .bf16⟩
  | .hbm, ⟨44, _⟩ => ⟨S1024x1536, .f32⟩
  | .hbm, ⟨45, _⟩ => ⟨S1024x1536, .f32⟩
  | .hbm, ⟨46, _⟩ => ⟨S1024x1536x1, .f32⟩
  | .hbm, ⟨47, _⟩ => ⟨S1024x1536x1, .f32⟩
  | .hbm, ⟨48, _⟩ => ⟨S1024x1536x2, .f32⟩
  | .hbm, ⟨49, _⟩ => ⟨S1024x3072, .f32⟩
  | .hbm, ⟨50, _⟩ => ⟨S1024x16, .f32⟩
  | .hbm, ⟨51, _⟩ => ⟨S1024x16, .bf16⟩
  | .hbm, ⟨52, _⟩ => ⟨S1024x16, .f32⟩
  | .hbm, ⟨53, _⟩ => ⟨S1024x16, .bf16⟩
  | .hbm, ⟨54, _⟩ => ⟨S1024x3072, .f32⟩
  | .hbm, ⟨55, _⟩ => ⟨S1024x3072, .f32⟩
  | .hbm, ⟨56, _⟩ => ⟨S1024x3072, .f32⟩
  | .hbm, ⟨57, _⟩ => ⟨S1024x3072, .f32⟩
  | .hbm, ⟨58, _⟩ => ⟨S1024x3072, .bf16⟩
  | .hbm, ⟨59, _⟩ => ⟨S2x512x3072, .bf16⟩
  | .hbm, ⟨60, _⟩ => ⟨S3072x16, .f32⟩
  | .hbm, ⟨61, _⟩ => ⟨S3072x16, .f32⟩
  | .hbm, ⟨62, _⟩ => ⟨S3072x16, .f32⟩
  | .hbm, ⟨63, _⟩ => ⟨S16x8192, .f32⟩
  | .hbm, ⟨64, _⟩ => ⟨S16x8192, .f32⟩
  | .hbm, ⟨65, _⟩ => ⟨S16x8192, .f32⟩
  | .hbm, ⟨66, _⟩ => ⟨S2x512x16, .bf16⟩
  | .hbm, ⟨67, _⟩ => ⟨S2x512x16, .bf16⟩
  | _, _ => ⟨S2x512x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Proof.Ideal.Runs.lean ====
/- What the two runs of the kernel body share: the program up to the pipelined region, the input blocks, the branch
   condition over the grid's points, where each output is idle or holds what was stored before, and the staging
   and scratch buffers. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`):
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`):
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`):
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 2).trans (((dats 0 c).arrAt_in 2 rfl _).trans ((hA c 2).trans (V_main_arg2 m c))),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      ((h c).1 6).trans (((dats 0 c).arrAt_in 6 rfl _).trans ((hA c 6).trans (V_main_arg5 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Whether output 8's buffer is FRESH at each position `1 ‥ N` — holds nothing the body stored since the region's entry or the
    last write-back (written back at the point before, or idle there and fresh before it) —, as a bitmask, bit `n` for position `n + 1`; position 0 is fresh. `freshTab0_8_step` checks it against the configuration's own
    step point by point and `Cfg.fresh_tab` makes it `Cfg.fresh` (`fresh0_8_eq`). -/
def freshTab0_8 : ℕ → Bool
  | 0 => true
  | n + 1 => (0x20 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → cfg0.idle 8 (grid0.coords t) = false := by decide +kernel
/-- At the points of case B output 8 is idle: the case stores nothing into it. -/
theorem idleAt0_8_B : ∀ t : Fin cfg0.N, ¬cond0_0 (grid0.coords t) → cfg0.idle 8 (grid0.coords t) = true := by decide +kernel
/-- At the points of case B, which keeps output 8's prior contents (reads it before covering, or covers it in part), the
    window's buffer is not FRESH: something was stored into it since the region's entry or its last write-back, idle points
    between or not (`Cfg.fresh`, by the table `freshTab0_8`). -/
theorem notFresh0_8_B : ∀ t : Fin cfg0.N, ¬cond0_0 (grid0.coords t) → cfg0.fresh 8 t.val = false := by
  intro t; rw [fresh0_8_eq t]; revert t; decide +kernel
/-- Whether output 9's buffer is FRESH at each position `1 ‥ N` — holds nothing the body stored since the region's entry or the
    last write-back (written back at the point before, or idle there and fresh before it) —, as a bitmask, bit `n` for position `n + 1`; position 0 is fresh. `freshTab0_9_step` checks it against the configuration's own
    step point by point and `Cfg.fresh_tab` makes it `Cfg.fresh` (`fresh0_9_eq`). -/
def freshTab0_9 : ℕ → Bool
  | 0 => true
  | n + 1 => (0x20 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cfg0.idle 9 (grid0.coords t) = false := by decide +kernel
/-- At the points of case B output 9 is idle: the case stores nothing into it. -/
theorem idleAt0_9_B : ∀ t : Fin cfg0.N, ¬cond0_0 (grid0.coords t) → cfg0.idle 9 (grid0.coords t) = true := by decide +kernel
/-- At the points of case B, which keeps output 9's prior contents (reads it before covering, or covers it in part), the
    window's buffer is not FRESH: something was stored into it since the region's entry or its last write-back, idle points
    between or not (`Cfg.fresh`, by the table `freshTab0_9`). -/
theorem notFresh0_9_B : ∀ t : Fin cfg0.N, ¬cond0_0 (grid0.coords t) → cfg0.fresh 9 t.val = false := by
  intro t; rw [fresh0_9_eq t]; revert t; decide +kernel
/-- Whether output 10's buffer is FRESH at each position `1 ‥ N` — holds nothing the body stored since the region's entry or the
    last write-back (written back at the point before, or idle there and fresh before it) —, as a bitmask, bit `n` for position `n + 1`; position 0 is fresh. `freshTab0_10_step` checks it against the configuration's own
    step point by point and `Cfg.fresh_tab` makes it `Cfg.fresh` (`fresh0_10_eq`). -/
def freshTab0_10 : ℕ → Bool
  | 0 => true
  | n + 1 => (0x20 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → cfg0.idle 10 (grid0.coords t) = false := by decide +kernel
/-- At the points of case B output 10 is idle: the case stores nothing into it. -/
theorem idleAt0_10_B : ∀ t : Fin cfg0.N, ¬cond0_0 (grid0.coords t) → cfg0.idle 10 (grid0.coords t) = true := by decide +kernel
/-- At the points of case B, which keeps output 10's prior contents (reads it before covering, or covers it in part), the
    window's buffer is not FRESH: something was stored into it since the region's entry or its last write-back, idle points
    between or not (`Cfg.fresh`, by the table `freshTab0_10`). -/
theorem notFresh0_10_B : ∀ t : Fin cfg0.N, ¬cond0_0 (grid0.coords t) → cfg0.fresh 10 t.val = false := by
  intro t; rw [fresh0_10_eq t]; revert t; decide +kernel
/-- Whether output 11's buffer is FRESH at each position `1 ‥ N` — holds nothing the body stored since the region's entry or the
    last write-back (written back at the point before, or idle there and fresh before it) —, as a bitmask, bit `n` for position `n + 1`; position 0 is fresh. `freshTab0_11_step` checks it against the configuration's own
    step point by point and `Cfg.fresh_tab` makes it `Cfg.fresh` (`fresh0_11_eq`). -/
def freshTab0_11 : ℕ → Bool
  | 0 => true
  | n + 1 => (0x20 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 live: the case stores into it. -/
theorem liveAt0_11_A : ∀ t : Fin cfg0.N, cond0_0 (grid0.coords t) → cfg0.idle 11 (grid0.coords t) = false := by decide +kernel
/-- At the points of case B output 11 is idle: the case stores nothing into it. -/
theorem idleAt0_11_B : ∀ t : Fin cfg0.N, ¬cond0_0 (grid0.coords t) → cfg0.idle 11 (grid0.coords t) = true := by decide +kernel
/-- At the points of case B, which keeps output 11's prior contents (reads it before covering, or covers it in part), the
    window's buffer is not FRESH: something was stored into it since the region's entry or its last write-back, idle points
    between or not (`Cfg.fresh`, by the table `freshTab0_11`). -/
theorem notFresh0_11_B : ∀ t : Fin cfg0.N, ¬cond0_0 (grid0.coords t) → cfg0.fresh 11 t.val = false := by
  intro t; rw [fresh0_11_eq t]; revert t; decide +kernel

/-! ## The kernel body on any staging memrefs: a subtype the run finds -/

/-- One staging buffer of output window 7, through which its contents are stated (`View.read_writes_of_cover`: the
    choice does not matter). -/
abbrev VO0_7 : View sig .tc .vmem S1024x512 .bf16 := (Memref.whole cc0_stg7_0 : Memref sig .tc .vmem S1024x512 .bf16).view
/-- One staging buffer of output window 8, through which its contents are stated (`View.read_writes_of_cover`: the
    choice does not matter). -/
abbrev VO0_8 : View sig .tc .vmem S16x3072 .f32 := (Memref.whole cc0_stg8_0 : Memref sig .tc .vmem S16x3072 .f32).view
/-- One staging buffer of output window 9, through which its contents are stated (`View.read_writes_of_cover`: the
    choice does not matter). -/
abbrev VO0_9 : View sig .tc .vmem S16x8192 .f32 := (Memref.whole cc0_stg9_0 : Memref sig .tc .vmem S16x8192 .f32).view
/-- One staging buffer of output window 10, through which its contents are stated (`View.read_writes_of_cover`: the
    choice does not matter). -/
abbrev VO0_10 : View sig .tc .vmem S16x1024 .bf16 := (Memref.whole cc0_stg10_0 : Memref sig .tc .vmem S16x1024 .bf16).view
/-- One staging buffer of output window 11, through which its contents are stated (`View.read_writes_of_cover`: the
    choice does not matter). -/
abbrev VO0_11 : View sig .tc .vmem S16x1024 .bf16 := (Memref.whole cc0_stg11_0 : Memref sig .tc .vmem S16x1024 .bf16).view
/-- Each window's current staging memref at point `t`, spelled as the pipeline passes it (`bodyAt0`), and its wholeness. -/
abbrev ms0_0 (t : Fin cfg0.N) : Memref sig .tc .vmem S1024x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x8192 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x1024 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1024x512 .f32 := Memref.whole cc0_scratch0
abbrev scM0_1 : Memref sig .tc .vmem S8192x128 .bf16 := Memref.whole cc0_scratch1
abbrev scM0_2 : Memref sig .tc .vmem S1024x16 .bf16 := Memref.whole cc0_scratch2
/-- The scratch `arg14` the kernel carries between points, as a view: what it holds is stated through it. -/
abbrev VS0_1 : View sig .tc .vmem S8192x128 .bf16 := scM0_1.view
/-- The scratch `arg15` the kernel carries between points, as a view: what it holds is stated through it. -/
abbrev VS0_2 : View sig .tc .vmem S1024x16 .bf16 := scM0_2.view

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Ideal.RunA.lean ====
/- The run of the kernel body at the grid's first point, where the conditional is taken: what it stores in every
   output and in the two scratch buffers it keeps. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1424000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) :
    Σ' (L7 : List (View.Piece (Elt F) S1024x512 .bf16)), Σ' (L8 : List (View.Piece (Elt F) S16x3072 .f32)), Σ' (L9 : List (View.Piece (Elt F) S16x8192 .f32)), Σ' (L10 : List (View.Piece (Elt F) S16x1024 .bf16)), Σ' (L11 : List (View.Piece (Elt F) S16x1024 .bf16)), Σ' (LS1 : List (View.Piece (Elt F) S8192x128 .bf16)), { LS2 : List (View.Piece (Elt F) S1024x16 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc0_qlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_qlora_bwd_eq_skeleton]; unfold cc0_qlora_bwd_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]
    · iexists _, _; isplitr; swap; · iexact HS0
      ipureintro; rfl
    isplitl [HS1]; · iexists _; iexact HS1
    iexists _; iexact HS2

end Cert.KernelIdeal.Gen

end
-- ==== Proof.Ideal.RunB.lean ====
/- The run of the kernel body at every later point, where the conditional is not taken: what it stores in the one
   output it writes there; the other outputs and the kept scratch buffers stay as they were. -/
module

public import proofs.«01_k».proof.Proof.Ideal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, 3, 4, 5), WITH the
    proof that on whole staging memrefs — the inputs' at their contents, the outputs it reads before covering (8, 9, 10, 11) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) :
    Σ' (L7 : List (View.Piece (Elt F) S1024x512 .bf16)), Σ' (L8 : List (View.Piece (Elt F) S16x3072 .f32)), Σ' (L9 : List (View.Piece (Elt F) S16x8192 .f32)), Σ' (L10 : List (View.Piece (Elt F) S16x1024 .bf16)), Σ' (L11 : List (View.Piece (Elt F) S16x1024 .bf16)), Σ' (LS1 : List (View.Piece (Elt F) S8192x128 .bf16)), { LS2 : List (View.Piece (Elt F) S1024x16 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9 ∗ owns (c : Thread nD τ) arg11 fullShare xo10 ∗ owns (c : Thread nD τ) arg12 fullShare xo11 ∗ (∃ d, owns (c : Thread nD τ) arg13 fullShare d) ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ owns (c : Thread nD τ) arg11 fullShare xo10 ∗ owns (c : Thread nD τ) arg12 fullShare xo11 ∗ (∃ d, owns (c : Thread nD τ) arg13 fullShare d) ∗ owns (c : Thread nD τ) arg14 fullShare xs1 ∗ owns (c : Thread nD τ) arg15 fullShare xs2) -∗ K ⟨⟩))
          ⊢ wp frame (wpE (defs₀ (F := F)) Variants.none c none) E (cc0_qlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], [], [], [], [], [], fun E K => ?run⟩
  case run =>
    simp only [cc0_qlora_bwd_eq_skeleton]; unfold cc0_qlora_bwd_skel
    simp only [k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg12.eq_unread hf11; obtain rfl := harg14.eq_unread hfs1; obtain rfl := harg15.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]
    · iexists _, _; isplitr; swap; · iexact HS0
      ipureintro; rfl
    isplitl [HS1]
    · iexists _; isplitr; · ipureintro; exact harg14.read_unread _
      iexact HS1
    iexists _; isplitr; · ipureintro; exact harg15.read_unread _
    iexact HS2

end Cert.KernelIdeal.Gen

end
-- ==== Proof.Ideal.Frame.lean ====
/- The frame of the kernel read over any values: what every output and kept scratch buffer holds after each point
   (`outsAt0`), the body at every point, the run of the whole program (`run_main`) and the frame (`frame`).
   Outputs 8 to 11 are stored at the first point only and written back after the last one; at the points between
   their buffers keep what they hold. -/
module

public import proofs.«01_k».proof.Proof.Ideal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (2 stores of `S1024x256`), so they cover it. -/
theorem cover0_A_7 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 S1024x256.size (by sl_kernel_rfl) y

/-- What case A leaves in output 7's staging buffer: its pieces read back over junk. -/
def out0_A_7 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) : Vec F S1024x512 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1)

/-- Case A's pieces for output 8 tile its block (1 store of `S16x3072`), so they cover it. -/
theorem cover0_A_8 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (y : S16x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1 S16x3072.size (by sl_kernel_rfl) y

/-- What case A leaves in output 8's staging buffer: its pieces read back over junk. -/
def out0_A_8 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) : Vec F S16x3072 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1)

/-- Case A's pieces for output 9 tile its block (1 store of `S16x8192`), so they cover it. -/
theorem cover0_A_9 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (y : S16x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1 S16x8192.size (by sl_kernel_rfl) y

/-- What case A leaves in output 9's staging buffer: its pieces read back over junk. -/
def out0_A_9 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) : Vec F S16x8192 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1)

/-- Case A's pieces for output 10 tile its block (1 store of `S16x1024`), so they cover it. -/
theorem cover0_A_10 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (y : S16x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1 S16x1024.size (by sl_kernel_rfl) y

/-- What case A leaves in output 10's staging buffer: its pieces read back over junk. -/
def out0_A_10 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) : Vec F S16x1024 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1)

/-- Case A's pieces for output 11 tile its block (1 store of `S16x1024`), so they cover it. -/
theorem cover0_A_11 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (y : S16x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1 S16x1024.size (by sl_kernel_rfl) y

/-- What case A leaves in output 11's staging buffer: its pieces read back over junk. -/
def out0_A_11 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) : Vec F S16x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1)

/-- Case A's pieces for scratch `arg14`, which the kernel carries between points, cover it: 64 pieces of `S128x128` tiling it. -/
theorem scover0_A_1 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (y : S8192x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1 S128x128.size (by sl_kernel_rfl) y

/-- What case A leaves in scratch `arg14`: its pieces read back over junk. -/
def sout0_A_1 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) : Vec F S8192x128 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1)

/-- Case A's pieces for scratch `arg15`, which the kernel carries between points, cover it: 1 piece of `S1024x16` tiling it. -/
theorem scover0_A_2 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (y : S1024x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1 S1024x16.size (by sl_kernel_rfl) y

/-- What case A leaves in scratch `arg15`: its pieces read back over junk. -/
def sout0_A_2 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) : Vec F S1024x16 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1)

/-- Case B's pieces for output 7 tile its block (2 stores of `S1024x256`), so they cover it. -/
theorem cover0_B_7 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xs1 xs2).1 S1024x256.size (by sl_kernel_rfl) y

/-- What case B leaves in output 7's staging buffer: its pieces read back over junk. -/
def out0_B_7 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) : Vec F S1024x512 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xs1 xs2).1)

/-- Case B stores nothing into output 8, a live window: its staging buffer holds what the point before left. -/
def out0_B_8 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) : Vec F S16x3072 .f32 := xo8

/-- Case B stores nothing into output 9, a live window: its staging buffer holds what the point before left. -/
def out0_B_9 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) : Vec F S16x8192 .f32 := xo9

/-- Case B stores nothing into output 10, a live window: its staging buffer holds what the point before left. -/
def out0_B_10 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) : Vec F S16x1024 .bf16 := xo10

/-- Case B stores nothing into output 11, a live window: its staging buffer holds what the point before left. -/
def out0_B_11 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) : Vec F S16x1024 .bf16 := xo11

/-- Case B stores nothing into scratch `arg14`: it holds what the point before left. -/
def sout0_B_1 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) : Vec F S8192x128 .bf16 := xs1

/-- Case B stores nothing into scratch `arg15`: it holds what the point before left. -/
def sout0_B_2 (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec F S1024x3072 .bf16) (x1 : Vec F S1024x8192 .bf16) (x2 : Vec F S8192x256 .i8) (x3 : Vec F S24x8192 .bf16) (x4 : Vec F S16x3072 .bf16) (x5 : Vec F S16x512 .bf16) (x6 : Vec F S16x8192 .bf16) (xo8 : Vec F S16x3072 .f32) (xo9 : Vec F S16x8192 .f32) (xo10 : Vec F S16x1024 .bf16) (xo11 : Vec F S16x1024 .bf16) (xs1 : Vec F S8192x128 .bf16) (xs2 : Vec F S1024x16 .bf16) : Vec F S1024x16 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x512 .bf16 × Vec F S16x3072 .f32 × Vec F S16x8192 .f32 × Vec F S16x1024 .bf16 × Vec F S16x1024 .bf16 × Vec F S8192x128 .bf16 × Vec F S1024x16 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 6 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 6 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 6 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (`ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's contents CARRY through the points that leave it idle: at such a point, its buffer not fresh, the proof data's
    `after` is the point before's (the case there stores nothing into the window and its term says so; a case that stores
    into it is not idle there by `liveAt0_8_κ`) — the hypothesis of `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 6 := lt_of_lt_of_eq t.isLt (show cfg0.N = 6 from N_0)
  rw [after0_8, after0_8]
  by_cases h0 : t.val % 6 = 0
  · rw [liveAt0_8_A t ((hcond0_0 t).mpr h0)] at hi
    exact absurd hi Bool.false_ne_true
  · exact (congrArg (fun o => o.2.1) (outsAt0_B m c t h0)).trans rfl

/-- Output 9's contents CARRY through the points that leave it idle: at such a point, its buffer not fresh, the proof data's
    `after` is the point before's (the case there stores nothing into the window and its term says so; a case that stores
    into it is not idle there by `liveAt0_9_κ`) — the hypothesis of `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 6 := lt_of_lt_of_eq t.isLt (show cfg0.N = 6 from N_0)
  rw [after0_9, after0_9]
  by_cases h0 : t.val % 6 = 0
  · rw [liveAt0_9_A t ((hcond0_0 t).mpr h0)] at hi
    exact absurd hi Bool.false_ne_true
  · exact (congrArg (fun o => o.2.2.1) (outsAt0_B m c t h0)).trans rfl

/-- Output 10's contents CARRY through the points that leave it idle: at such a point, its buffer not fresh, the proof data's
    `after` is the point before's (the case there stores nothing into the window and its term says so; a case that stores
    into it is not idle there by `liveAt0_10_κ`) — the hypothesis of `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 6 := lt_of_lt_of_eq t.isLt (show cfg0.N = 6 from N_0)
  rw [after0_10, after0_10]
  by_cases h0 : t.val % 6 = 0
  · rw [liveAt0_10_A t ((hcond0_0 t).mpr h0)] at hi
    exact absurd hi Bool.false_ne_true
  · exact (congrArg (fun o => o.2.2.2.1) (outsAt0_B m c t h0)).trans rfl

/-- Output 11's contents CARRY through the points that leave it idle: at such a point, its buffer not fresh, the proof data's
    `after` is the point before's (the case there stores nothing into the window and its term says so; a case that stores
    into it is not idle there by `liveAt0_11_κ`) — the hypothesis of `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 6 := lt_of_lt_of_eq t.isLt (show cfg0.N = 6 from N_0)
  rw [after0_11, after0_11]
  by_cases h0 : t.val % 6 = 0
  · rw [liveAt0_11_A t ((hcond0_0 t).mpr h0)] at hi
    exact absurd hi Bool.false_ne_true
  · exact (congrArg (fun o => o.2.2.2.2.1) (outsAt0_B m c t h0)).trans rfl
/-- At a point of case B output 8's current staging buffer holds what the point before left: the buffer is not fresh
    there (`notFresh0_8_B`: stored into since the region's entry or the last write-back, carried through the points that
    leave it idle by `hcarry0_8`; `Dat.before_out_traj`). -/
theorem before0_8_B (c : Dev nD) (t : Fin cfg0.N) (h0 : ¬t.val % 6 = 0) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_B t (fun h => h0 ((hcond0_0 t).mp h))]; exact Bool.false_ne_true)]
  dsimp only [dats]
/-- At a point of case B output 9's current staging buffer holds what the point before left: the buffer is not fresh
    there (`notFresh0_9_B`: stored into since the region's entry or the last write-back, carried through the points that
    leave it idle by `hcarry0_9`; `Dat.before_out_traj`). -/
theorem before0_9_B (c : Dev nD) (t : Fin cfg0.N) (h0 : ¬t.val % 6 = 0) (d) :
    (dats m 0 c).before 9 t d = (outsAt0 m c (t.val - 1) (Nat.lt_of_le_of_lt (Nat.sub_le _ _) t.isLt)).2.2.1 := by
  rw [Dat.before_out_traj _ 9 rfl (fun _ _ => rfl) (hcarry0_9 m c) t.val t rfl d,
    if_neg (by rw [notFresh0_9_B t (fun h => h0 ((hcond0_0 t).mp h))]; exact Bool.false_ne_true)]
  dsimp only [dats]
/-- At a point of case B output 10's current staging buffer holds what the point before left: the buffer is not fresh
    there (`notFresh0_10_B`: stored into since the region's entry or the last write-back, carried through the points that
    leave it idle by `hcarry0_10`; `Dat.before_out_traj`). -/
theorem before0_10_B (c : Dev nD) (t : Fin cfg0.N) (h0 : ¬t.val % 6 = 0) (d) :
    (dats m 0 c).before 10 t d = (outsAt0 m c (t.val - 1) (Nat.lt_of_le_of_lt (Nat.sub_le _ _) t.isLt)).2.2.2.1 := by
  rw [Dat.before_out_traj _ 10 rfl (fun _ _ => rfl) (hcarry0_10 m c) t.val t rfl d,
    if_neg (by rw [notFresh0_10_B t (fun h => h0 ((hcond0_0 t).mp h))]; exact Bool.false_ne_true)]
  dsimp only [dats]
/-- At a point of case B output 11's current staging buffer holds what the point before left: the buffer is not fresh
    there (`notFresh0_11_B`: stored into since the region's entry or the last write-back, carried through the points that
    leave it idle by `hcarry0_11`; `Dat.before_out_traj`). -/
theorem before0_11_B (c : Dev nD) (t : Fin cfg0.N) (h0 : ¬t.val % 6 = 0) (d) :
    (dats m 0 c).before 11 t d = (outsAt0 m c (t.val - 1) (Nat.lt_of_le_of_lt (Nat.sub_le _ _) t.isLt)).2.2.2.2.1 := by
  rw [Dat.before_out_traj _ 11 rfl (fun _ _ => rfl) (hcarry0_11 m c) t.val t rfl d,
    if_neg (by rw [notFresh0_11_B t (fun h => h0 ((hcond0_0 t).mp h))]; exact Bool.false_ne_true)]
  dsimp only [dats]

/-- At a point of case B output 8's buffer, at what the point before left in it, is what the pipeline asks of an idle window:
    the held contents, and they are this point's own contents too (so the write-back at the last point finds them). -/
theorem keeps0_8_B (c : Dev nD) (t : Fin cfg0.N) (h0 : ¬t.val % 6 = 0) :
    owns (c : Thread nD τ) (ms0_8 t) fullShare ((outsAt0 m c (t.val - 1) (Nat.lt_of_le_of_lt (Nat.sub_le _ _) t.isLt)).2.1) ⊢ ((dats m 0 c).leavesExact 8 t : sProp 𝕄) := by
  have ha : (dats m 0 c).after 8 t = (outsAt0 m c (t.val - 1) (Nat.lt_of_le_of_lt (Nat.sub_le _ _) t.isLt)).2.1 :=
    (after0_8 m c t).trans ((congrArg (fun o => o.2.1) (outsAt0_B m c t h0)).trans rfl)
  cases hf : (cfg0.win 8).flush t with
  | true =>
    rw [show (dats m 0 c).leavesExact 8 t = owns (c : Thread nD τ) (ms0_8 t) fullShare ((dats m 0 c).after 8 t) from by
      unfold Dat.leavesExact; rw [idleAt0_8_B t (fun h => h0 ((hcond0_0 t).mp h)), hf], ha]
    try exact Idealize.SL.BI.Entails.refl _
  | false =>
    rw [Dat.leavesExact_idle (dats m 0 c) 8 t (idleAt0_8_B t (fun h => h0 ((hcond0_0 t).mp h))) hf]
    simp only [before0_8_B m c t h0]
    iintro H
    iexists default
    iexact H

/-- At a point of case B output 9's buffer, at what the point before left in it, is what the pipeline asks of an idle window:
    the held contents, and they are this point's own contents too (so the write-back at the last point finds them). -/
theorem keeps0_9_B (c : Dev nD) (t : Fin cfg0.N) (h0 : ¬t.val % 6 = 0) :
    owns (c : Thread nD τ) (ms0_9 t) fullShare ((outsAt0 m c (t.val - 1) (Nat.lt_of_le_of_lt (Nat.sub_le _ _) t.isLt)).2.2.1) ⊢ ((dats m 0 c).leavesExact 9 t : sProp 𝕄) := by
  have ha : (dats m 0 c).after 9 t = (outsAt0 m c (t.val - 1) (Nat.lt_of_le_of_lt (Nat.sub_le _ _) t.isLt)).2.2.1 :=
    (after0_9 m c t).trans ((congrArg (fun o => o.2.2.1) (outsAt0_B m c t h0)).trans rfl)
  cases hf : (cfg0.win 9).flush t with
  | true =>
    rw [show (dats m 0 c).leavesExact 9 t = owns (c : Thread nD τ) (ms0_9 t) fullShare ((dats m 0 c).after 9 t) from by
      unfold Dat.leavesExact; rw [idleAt0_9_B t (fun h => h0 ((hcond0_0 t).mp h)), hf], ha]
    try exact Idealize.SL.BI.Entails.refl _
  | false =>
    rw [Dat.leavesExact_idle (dats m 0 c) 9 t (idleAt0_9_B t (fun h => h0 ((hcond0_0 t).mp h))) hf]
    simp only [before0_9_B m c t h0]
    iintro H
    iexists default
    iexact H

/-- At a point of case B output 10's buffer, at what the point before left in it, is what the pipeline asks of an idle window:
    the held contents, and they are this point's own contents too (so the write-back at the last point finds them). -/
theorem keeps0_10_B (c : Dev nD) (t : Fin cfg0.N) (h0 : ¬t.val % 6 = 0) :
    owns (c : Thread nD τ) (ms0_10 t) fullShare ((outsAt0 m c (t.val - 1) (Nat.lt_of_le_of_lt (Nat.sub_le _ _) t.isLt)).2.2.2.1) ⊢ ((dats m 0 c).leavesExact 10 t : sProp 𝕄) := by
  have ha : (dats m 0 c).after 10 t = (outsAt0 m c (t.val - 1) (Nat.lt_of_le_of_lt (Nat.sub_le _ _) t.isLt)).2.2.2.1 :=
    (after0_10 m c t).trans ((congrArg (fun o => o.2.2.2.1) (outsAt0_B m c t h0)).trans rfl)
  cases hf : (cfg0.win 10).flush t with
  | true =>
    rw [show (dats m 0 c).leavesExact 10 t = owns (c : Thread nD τ) (ms0_10 t) fullShare ((dats m 0 c).after 10 t) from by
      unfold Dat.leavesExact; rw [idleAt0_10_B t (fun h => h0 ((hcond0_0 t).mp h)), hf], ha]
    try exact Idealize.SL.BI.Entails.refl _
  | false =>
    rw [Dat.leavesExact_idle (dats m 0 c) 10 t (idleAt0_10_B t (fun h => h0 ((hcond0_0 t).mp h))) hf]
    simp only [before0_10_B m c t h0]
    iintro H
    iexists default
    iexact H

/-- At a point of case B output 11's buffer, at what the point before left in it, is what the pipeline asks of an idle window:
    the held contents, and they are this point's own contents too (so the write-back at the last point finds them). -/
theorem keeps0_11_B (c : Dev nD) (t : Fin cfg0.N) (h0 : ¬t.val % 6 = 0) :
    owns (c : Thread nD τ) (ms0_11 t) fullShare ((outsAt0 m c (t.val - 1) (Nat.lt_of_le_of_lt (Nat.sub_le _ _) t.isLt)).2.2.2.2.1) ⊢ ((dats m 0 c).leavesExact 11 t : sProp 𝕄) := by
  have ha : (dats m 0 c).after 11 t = (outsAt0 m c (t.val - 1) (Nat.lt_of_le_of_lt (Nat.sub_le _ _) t.isLt)).2.2.2.2.1 :=
    (after0_11 m c t).trans ((congrArg (fun o => o.2.2.2.2.1) (outsAt0_B m c t h0)).trans rfl)
  cases hf : (cfg0.win 11).flush t with
  | true =>
    rw [show (dats m 0 c).leavesExact 11 t = owns (c : Thread nD τ) (ms0_11 t) fullShare ((dats m 0 c).after 11 t) from by
      unfold Dat.leavesExact; rw [idleAt0_11_B t (fun h => h0 ((hcond0_0 t).mp h)), hf], ha]
    try exact Idealize.SL.BI.Entails.refl _
  | false =>
    rw [Dat.leavesExact_idle (dats m 0 c) 11 t (idleAt0_11_B t (fun h => h0 ((hcond0_0 t).mp h))) hf]
    simp only [before0_11_B m c t h0]
    iintro H
    iexists default
    iexact H

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 6 := lt_of_lt_of_eq t.isLt (show cfg0.N = 6 from N_0)
  by_cases h0 : t.val % 6 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8_A t ((hcond0_0 t).mpr h0)], after0_8]
    rw [show (dats m 0 c).leavesExact 9 t = owns (c : Thread nD τ) (ms0_9 t) fullShare ((dats m 0 c).after 9 t) from by
      unfold Dat.leavesExact; rw [liveAt0_9_A t ((hcond0_0 t).mpr h0)], after0_9]
    rw [show (dats m 0 c).leavesExact 10 t = owns (c : Thread nD τ) (ms0_10 t) fullShare ((dats m 0 c).after 10 t) from by
      unfold Dat.leavesExact; rw [liveAt0_10_A t ((hcond0_0 t).mpr h0)], after0_10]
    rw [show (dats m 0 c).leavesExact 11 t = owns (c : Thread nD τ) (ms0_11 t) fullShare ((dats m 0 c).after 11 t) from by
      unfold Dat.leavesExact; rw [liveAt0_11_A t ((hcond0_0 t).mpr h0)], after0_11]
    by_cases hz : t.val = 0
    · rw [PhiS_castSucc m c t, PhiS_zero m c _ _ hz, PhiA0_eq]
      rw [outsAt0_A m c t h0]
      unfold out0_A_7 out0_A_8 out0_A_9 out0_A_10 out0_A_11 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, ⟨%e7, H7⟩, ⟨%e8, H8⟩, ⟨%e9, H9⟩, ⟨%e10, H10⟩, ⟨%e11, H11⟩, HS0, ⟨%es1, HS1⟩, ⟨%es2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _)
    · exfalso; have hN : t.val < 6 := lt_of_lt_of_eq t.isLt (show cfg0.N = 6 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · exfalso; have hN : t.val < 6 := lt_of_lt_of_eq t.isLt (show cfg0.N = 6 from N_0); omega
    · rw [PhiS_castSucc m c t, PhiS_pos m c _ _ hz]
      rw [outsAt0_B m c t h0]
      simp only [before0_8_B m c t h0, before0_9_B m c t h0, before0_10_B m c t h0, before0_11_B m c t h0]
      unfold out0_B_7 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _ _ _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      iintro ⟨H0, H1, H2, H3, H4, H5, H6, ⟨%e7, H7⟩, H8, H9, H10, H11, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _ _)
      isplitl [H8]; · iapply (keeps0_8_B m c t h0); iexact H8
      isplitl [H9]; · iapply (keeps0_9_B m c t h0); iexact H9
      isplitl [H10]; · iapply (keeps0_10_B m c t h0); iexact H10
      iapply (keeps0_11_B m c t h0); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (`FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Ideal.Same.lean ====
/- The kernel as printed and its reading over the extended reals are the same text, so the frame of one is the frame of the other. -/
module

public import proofs.«01_k».proof.Proof.Gen.Kernel
public import proofs.«01_k».proof.Proof.Ideal.Frame

@[expose] public section

set_option maxRecDepth 16384

noncomputable section

namespace Cert.Proof

open Idealize.ShloMosaic Idealize.SL.Sem

variable {F : FTy → Type} [FloatOps F]

theorem pcfgs_eq : Cert.Kernel.pcfgs (F := F) = Cert.KernelIdeal.pcfgs (F := F) := rfl

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs (Cert.KernelIdeal.pcfgs (F := F))) defs₀_eq

set_option maxHeartbeats 4000000 in
theorem main_eq : Cert.Kernel.main (F := F) = Cert.KernelIdeal.main (F := F) := rfl

end Cert.Proof

end
-- ==== Proof.Value.Words.lean ====
module

public import proofs.«01_k».proof.Proof.Gen.KernelIdeal.Skeleton
public import Idealize.ShloMosaic.Lib.Pipeline.Value
public import Idealize.ShloMosaic.Lib.ValueIdx
public import Idealize.ShloMosaic.Lib.BitcastPair

@[expose] public section

/-! # The kernel's integer work, read at an index

The weight bytes are decoded four at a time through 32-bit words, and the scale and interleave
gathers take their lane numbers from words built out of the lane's own number.  Here each of these is
read at one index. -/

set_option maxRecDepth 16384

noncomputable section

namespace Cert.KernelIdeal.Pay

open Idealize.ShloMosaic Idealize.ShloMosaic.ValueIdx
open Cert.KernelIdeal Cert.KernelIdeal.Gen

/-! ## Bytes through words -/

theorem row_bytes (j : S1024x256.Idx) : S1024x256.row j = (j 0).val := by
  unfold Shape.row
  rw [dif_pos (show 2 ≤ S1024x256.rank by decide)]
  rfl

theorem row_words (j : S256x256.Idx) : S256x256.row j = (j 0).val := by
  unfold Shape.row
  rw [dif_pos (show 2 ≤ S256x256.rank by decide)]
  rfl

/-- A word of the first reinterpretation, bit by bit. -/
theorem word_getLsbD (x : IVec S1024x256 8) (j : S256x256.Idx) (a : Fin 1024) (b : Fin 256) (p : Nat) (hp : p < 8)
    (h0 : (j 0).val = a.val / 4) (h1 : (j 1).val = b.val) :
    (bitcast S256x256 32 x bitcasts_S1024x256_w8_S256x256_w32 j).getLsbD (8 * (a.val % 4) + p)
      = (x (ix2 a b)).getLsbD p := by
  rw [bitcast_getLsbD _ bitcasts_S1024x256_w8_S256x256_w32 _ _ (by omega) (by decide)]
  have e4 : (S256x256.row j * 32 + (8 * (a.val % 4) + p)) % 8 = p := by omega
  have e5 : (S256x256.row j * 32 + (8 * (a.val % 4) + p)) / 8 = a.val := by rw [row_words, h0]; omega
  rw [e4]
  refine congrArg (fun i => (x i).getLsbD p) (funext fun c => Fin.ext ?_)
  match c with
  | ⟨0, _⟩ =>
    rw [Shape.Bitcasts.srcIdx_row _ _ _ _ ⟨0, by decide⟩ rfl, e5]
  | ⟨1, _⟩ =>
    rw [Shape.Bitcasts.srcIdx_other _ _ _ _ ⟨1, by decide⟩ (by decide)]
    exact h1

/-- An operation on 32-bit words that acts on each of a word's four bytes on its own, put between the two
    reinterpretations, acts on each byte. -/
theorem bitcast_bytes (f : BitVec 32 → BitVec 32) (g : BitVec 8 → BitVec 8)
    (hfg : ∀ (w : BitVec 32) (r q : Nat), r < 4 → q < 8 →
      (f w).getLsbD (8 * r + q) = (g (w.extractLsb' (8 * r) 8)).getLsbD q)
    (x : IVec S1024x256 8) (a : Fin 1024) (b : Fin 256) :
    bitcast S1024x256 8 (fun i => f (bitcast S256x256 32 x bitcasts_S1024x256_w8_S256x256_w32 i))
      bitcasts_S256x256_w32_S1024x256_w8 (ix2 a b) = g (x (ix2 a b)) := by
  apply BitVec.eq_of_getLsbD_eq
  intro q hq
  rw [bitcast_getLsbD _ bitcasts_S256x256_w32_S1024x256_w8 (ix2 a b) q hq (by decide)]
  have hrow : S1024x256.row (ix2 a b) = a.val := row_bytes _
  have e1 : (S1024x256.row (ix2 a b) * 8 + q) % 32 = 8 * (a.val % 4) + q := by rw [hrow]; omega
  have e2 : (S1024x256.row (ix2 a b) * 8 + q) / 32 = a.val / 4 := by rw [hrow]; omega
  rw [e1, hfg _ _ _ (by omega) hq]
  refine congrArg (fun w => (g w).getLsbD q) (BitVec.eq_of_getLsbD_eq fun p hp => ?_)
  rw [BitVec.getLsbD_extractLsb', decide_eq_true hp, Bool.true_and]
  refine word_getLsbD x _ a b p hp ?_ ?_
  · rw [Shape.Bitcasts.srcIdx_row _ _ _ _ 0 rfl, e2]
  · rw [Shape.Bitcasts.srcIdx_other _ _ _ _ 1 (by decide)]
    rfl

/-- The low four bits of a code byte, its sign bit flipped. -/
abbrev loB (b : BitVec 8) : BitVec 8 := (b ^^^ 0x88#8) &&& 0x0F#8
/-- The high four bits of a code byte, its sign bit flipped. -/
abbrev hiB (b : BitVec 8) : BitVec 8 := ((b ^^^ 0x88#8) >>> 4) &&& 0x0F#8

theorem pay84_apply (x : IVec S1024x256 8) (a : Fin 1024) (b : Fin 256) :
    k0_pay84 (F := Ideal) x (ix2 a b) = loB (x (ix2 a b)) :=
  bitcast_bytes (fun w => (w ^^^ 2290649224#32) &&& 252645135#32) loB (fun w r q hr hq => by
    interval_cases r <;> interval_cases q <;> simp) x a b

theorem shr4 (w : BitVec 32) : IntOp.shrui .vector w 4#32 = w >>> 4 := by
  unfold IntOp.shrui
  rw [if_pos (by decide)]
  rfl

theorem pay85_apply (x : IVec S1024x256 8) (a : Fin 1024) (b : Fin 256) :
    k0_pay85 (F := Ideal) x (ix2 a b) = hiB (x (ix2 a b)) := by
  have h := bitcast_bytes (fun w => ((w ^^^ 2290649224#32) >>> 4) &&& 252645135#32) hiB (fun w r q hr hq => by
    interval_cases r <;> interval_cases q <;> simp) x a b
  rw [← h]
  unfold k0_pay85 k0_pay83
  dsimp only
  congr 1

/-! ## Gathers -/

/-- A gather along the lanes at a lane number that is in range reads that lane. -/
theorem gather_apply {α : Type} (x : S1024x128.Idx → α) (w : IVec S1024x128 32) (t : Fin 1024) (k l : Fin 128)
    (h : w (ix2 t k) = BitVec.ofNat 32 l.val) : dynamicGather 1 x w (ix2 t k) = x (ix2 t l) := by
  unfold dynamicGather
  refine congrArg x (funext fun b => ?_)
  match b with
  | ⟨0, _⟩ => exact if_neg (show ¬ (⟨0, by decide⟩ : Fin S1024x128.rank) = 1 by decide)
  | ⟨1, _⟩ =>
    refine (if_pos rfl).trans (Fin.ext ?_)
    show (w (ix2 t k)).toNat % 128 = l.val
    rw [h, BitVec.toNat_ofNat]
    have := l.isLt
    omega

theorem lane (y : S1024x128.Idx) : iota .tc S1024x128 32 [1] iota_S1024x128_d1_w32 y = BitVec.ofNat 32 (y 1).val :=
  iota_single_apply _ _ _ _ _ _

/-- Division of a lane word by 64 rounded down, as the kernel computes it: the rounded-to-zero quotient, less one
    where the signs differ and the remainder is not zero. -/
abbrev div64 (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- A lane number counted from the end where negative. -/
abbrev wrap (w : BitVec 32) : BitVec 32 :=
  Scalar.select (IntOp.cmpi .slt w 0#32) (IntOp.addi w 128#32) w

theorem group_word : ∀ (o : Fin 24) (l : Fin 128),
    wrap (IntOp.addi (div64 (BitVec.ofNat 32 l.val)) (BitVec.ofNat 32 o.val)) = BitVec.ofNat 32 (o.val + l.val / 64) := by
  decide +kernel

theorem half_word : ∀ (o : Fin 65) (l : Fin 128),
    wrap (IntOp.addi (IntOp.shrui .vector (BitVec.ofNat 32 l.val) 1#32) (BitVec.ofNat 32 o.val))
      = BitVec.ofNat 32 (l.val / 2 + o.val) := by
  decide +kernel

theorem parity_word : ∀ l : Fin 128,
    IntOp.cmpi .eq (IntOp.andi (BitVec.ofNat 32 l.val) 1#32) 0#32 = if l.val % 2 = 0 then 1#1 else 0#1 := by
  decide +kernel

/-- The group lane the scale gather of a column half reads: its first lane's group, and the next one from lane 64. -/
theorem lane_lt {j l : Nat} (hj : j < 6) (hl : l < 128) (c : Nat) (hc : c ≤ 2) : 4 * j + c + l / 64 < 128 := by omega

theorem pay89_apply (v : BitVec 32) (j : Nat) (hj : j < 6) (hv : v = BitVec.ofNat 32 (4 * j)) (x : FVec Ideal S1024x128 .f32)
    (t : Fin 1024) (k : Fin 128) :
    k0_pay89 (F := Ideal) v x k0_pay87 k0_pay88 (ix2 t k) = x (ix2 t ⟨4 * j + 0 + k.val / 64, lane_lt hj k.isLt 0 (by omega)⟩) := by
  unfold k0_pay89
  rw [truncf_apply, shapeCast_shapeCast]
  refine gather_apply x _ t k _ ?_
  show wrap (IntOp.addi (div64 (iota .tc S1024x128 32 [1] iota_S1024x128_d1_w32 (ix2 t k))) (IntOp.addi v 0#32)) = _
  rw [lane, hv]
  have e : IntOp.addi (BitVec.ofNat 32 (4 * j)) 0#32 = BitVec.ofNat 32 (4 * j + 0) := by
    unfold IntOp.addi; rw [BitVec.ofNat_add_ofNat]
  rw [e]
  exact group_word ⟨4 * j + 0, by omega⟩ k

theorem gather2_apply (v : BitVec 32) (j : Nat) (hj : j < 6) (hv : v = BitVec.ofNat 32 (4 * j)) (x : FVec Ideal S1024x128 .f32)
    (t : Fin 1024) (k : Fin 128) (h1 h2) :
    dynamicGather 1 x (shapeCast S1024x128 (shapeCast S1024x128x1
      (select (k0_pay91 v (iota .tc S1024x128 32 [1] iota_S1024x128_d1_w32))
        (k0_pay92 v (iota .tc S1024x128 32 [1] iota_S1024x128_d1_w32))
        (k0_pay90 v (iota .tc S1024x128 32 [1] iota_S1024x128_d1_w32))) h1) h2) (ix2 t k)
      = x (ix2 t ⟨4 * j + 2 + k.val / 64, lane_lt hj k.isLt 2 (by omega)⟩) := by
  rw [shapeCast_shapeCast]
  refine gather_apply x _ t k _ ?_
  show wrap (IntOp.addi (div64 (iota .tc S1024x128 32 [1] iota_S1024x128_d1_w32 (ix2 t k))) (IntOp.addi v 2#32)) = _
  rw [lane, hv]
  have e : IntOp.addi (BitVec.ofNat 32 (4 * j)) 2#32 = BitVec.ofNat 32 (4 * j + 2) := by
    unfold IntOp.addi; rw [BitVec.ofNat_add_ofNat]
  rw [e]
  exact group_word ⟨4 * j + 2, by omega⟩ k

/-- Two halves of 128 columns side by side. -/
theorem concat_apply {α : Type} (x₁ x₂ : S1024x128.Idx → α) (t : Fin 1024) (c : Fin 256) :
    concatenate S1024x256 1 [⟨S1024x128, x₁⟩, ⟨S1024x128, x₂⟩] concatenates_S1024x128_S1024x128_S1024x256_d1 (ix2 t c)
      = if h : c.val < 128 then x₁ (ix2 t ⟨c.val, h⟩) else x₂ (ix2 t ⟨c.val - 128, by omega⟩) := by
  by_cases h : c.val < 128
  · rw [dif_pos h]
    refine concatenate_pair_apply_left (t := S1024x256) 1 x₁ x₂ _ _ rfl (ix2 t ⟨c.val, h⟩) ?_
    intro b
    match b with
    | ⟨0, _⟩ => rfl
    | ⟨1, _⟩ => rfl
  · rw [dif_neg h]
    refine concatenate_pair_apply_right (t := S1024x256) 1 x₁ x₂ _ _ rfl rfl (ix2 t ⟨c.val - 128, by omega⟩) ?_ ?_
    · intro b hb
      match b with
      | ⟨0, _⟩ => rfl
      | ⟨1, _⟩ => exact absurd rfl hb
    · show c.val - 128 + 128 = c.val
      omega

/-- The scales a column block's 256 packed columns take: column `c` that of group `4 j + c / 64`. -/
theorem pay95_apply (v : BitVec 32) (j : Nat) (hj : j < 6) (hv : v = BitVec.ofNat 32 (4 * j)) (x : FVec Ideal S1024x128 .f32)
    (t : Fin 1024) (c : Fin 256) :
    k0_pay95 (F := Ideal) x (k0_pay89 v x k0_pay87 k0_pay88)
      (k0_pay90 v (iota .tc S1024x128 32 [1] iota_S1024x128_d1_w32))
      (k0_pay91 v (iota .tc S1024x128 32 [1] iota_S1024x128_d1_w32))
      (k0_pay92 v (iota .tc S1024x128 32 [1] iota_S1024x128_d1_w32)) (ix2 t c)
      = x (ix2 t ⟨4 * j + c.val / 64, by omega⟩) := by
  unfold k0_pay95
  dsimp only
  rw [concat_apply]
  split
  · rw [pay89_apply v j hj hv]
    rfl
  · rw [truncf_apply, gather2_apply v j hj hv]
    refine congrArg x (congrArg (ix2 t) (Fin.ext ?_))
    show 4 * j + 2 + (c.val - 128) / 64 = 4 * j + c.val / 64
    omega

/-! ## The interleave -/

theorem half_apply (o : Fin 65) (x : FVec Ideal S1024x128 .f32) (w : IVec S1024x128 32) (ho : o.val ≤ 64)
    (hw : ∀ y, w y = wrap (IntOp.addi (IntOp.shrui .vector (iota .tc S1024x128 32 [1] iota_S1024x128_d1_w32 y) 1#32) (BitVec.ofNat 32 o.val)))
    (t : Fin 1024) (k : Fin 128) (h1 h2) :
    dynamicGather 1 x (shapeCast S1024x128 (shapeCast S1024x128x1 w h1) h2) (ix2 t k)
      = x (ix2 t ⟨k.val / 2 + o.val, by omega⟩) := by
  rw [shapeCast_shapeCast]
  refine gather_apply x _ t k _ ?_
  rw [hw, lane]
  exact half_word o k

theorem parity_apply {α : Type} (a b : α) (y : S1024x128.Idx) :
    Scalar.select (IntOp.cmpi .eq (IntOp.andi (iota .tc S1024x128 32 [1] iota_S1024x128_d1_w32 y) 1#32) 0#32) a b
      = if (y 1).val % 2 = 0 then a else b := by
  rw [lane]
  rw [parity_word ⟨(y 1).val, (y 1).isLt⟩]
  by_cases h : (y 1).val % 2 = 0
  · rw [if_pos h, if_pos h]; rfl
  · rw [if_neg h, if_neg h]; rfl

/-- The pair of sums interleaved: of 256 result columns, even column `2 k` is the even sums' column `k`, odd column
    `2 k + 1` the odd sums' column `k`. -/
theorem inter0_apply (e o : FVec Ideal S1024x128 .f32) (t : Fin 1024) (c : Fin 256) :
    k0_pay106 (F := Ideal) (k0_pay104 e o (iota .tc S1024x128 32 [1] iota_S1024x128_d1_w32))
      (k0_pay105 e o (iota .tc S1024x128 32 [1] iota_S1024x128_d1_w32)) (ix2 t c)
      = if c.val % 2 = 0 then e (ix2 t ⟨c.val / 2, by omega⟩) else o (ix2 t ⟨c.val / 2, by omega⟩) := by
  unfold k0_pay106
  dsimp only
  rw [truncf_apply, concat_apply]
  split
  · unfold k0_pay104 k0_pay103
    dsimp only
    refine (parity_apply _ _ _).trans ((if_congr Iff.rfl
      (half_apply 0 _ _ (by decide) (fun y => rfl) _ _ _ _)
      (half_apply 0 _ _ (by decide) (fun y => rfl) _ _ _ _)).trans ?_)
    rfl
  · rename_i h
    unfold k0_pay105 k0_pay103
    dsimp only
    refine (parity_apply _ _ _).trans ((if_congr Iff.rfl
      (half_apply 64 _ _ (by decide) (fun y => rfl) _ _ _ _)
      (half_apply 64 _ _ (by decide) (fun y => rfl) _ _ _ _)).trans ?_)
    have e1 : (c.val - 128) / 2 + 64 = c.val / 2 := by omega
    have e2 : (c.val - 128) % 2 = c.val % 2 := by omega
    show (if (c.val - 128) % 2 = 0 then e (ix2 t ⟨(c.val - 128) / 2 + 64, _⟩) else o (ix2 t ⟨(c.val - 128) / 2 + 64, _⟩)) = _
    simp only [e1, e2]

/-- The same for the second half of the columns. -/
theorem inter1_apply (e o : FVec Ideal S1024x256 .bf16) (t : Fin 1024) (c : Fin 256) :
    k0_pay1 (F := Ideal) (k0_pay108 o) k0_pay109 (k0_pay110 e o) k0_pay111 (k0_pay112 e) (ix2 t c)
      = if c.val % 2 = 0 then e (ix2 t ⟨128 + c.val / 2, by omega⟩) else o (ix2 t ⟨128 + c.val / 2, by omega⟩) := by
  have hs : ∀ (x : FVec Ideal S1024x256 .bf16) (k : Fin 128), k0_pay107 (F := Ideal) x (ix2 t k) = x (ix2 t ⟨128 + k.val, by omega⟩) := by
    intro x k
    unfold k0_pay107
    rw [extf_apply]
    refine extractStridedSlice_apply _ _ _ _ _ ?_
    intro a
    match a with
    | ⟨0, _⟩ => exact (Nat.zero_add _).symm
    | ⟨1, _⟩ => rfl
  have hs' : ∀ (x : FVec Ideal S1024x256 .bf16) (k : Fin 128), k0_pay108 (F := Ideal) x (ix2 t k) = x (ix2 t ⟨128 + k.val, by omega⟩) := hs
  unfold k0_pay1
  rw [truncf_apply, concat_apply]
  split
  · unfold k0_pay110 k0_pay109
    dsimp only
    refine (parity_apply _ _ _).trans ((if_congr Iff.rfl
      (half_apply 0 _ _ (by decide) (fun y => rfl) _ _ _ _)
      (half_apply 0 _ _ (by decide) (fun y => rfl) _ _ _ _)).trans ?_)
    show (if c.val % 2 = 0 then k0_pay107 e (ix2 t ⟨c.val / 2 + 0, _⟩) else k0_pay108 o (ix2 t ⟨c.val / 2 + 0, _⟩)) = _
    rw [hs, hs']
    rfl
  · rename_i h
    unfold k0_pay109 k0_pay112 k0_pay111
    dsimp only
    refine (parity_apply _ _ _).trans ((if_congr Iff.rfl
      (half_apply 64 _ _ (by decide) (fun y => rfl) _ _ _ _)
      (half_apply 64 _ _ (by decide) (fun y => rfl) _ _ _ _)).trans ?_)
    have e1 : (c.val - 128) / 2 + 64 = c.val / 2 := by omega
    have e2 : (c.val - 128) % 2 = c.val % 2 := by omega
    show (if (c.val - 128) % 2 = 0 then k0_pay107 e (ix2 t ⟨(c.val - 128) / 2 + 64, _⟩) else k0_pay108 o (ix2 t ⟨(c.val - 128) / 2 + 64, _⟩)) = _
    rw [hs, hs']
    simp only [e1, e2]

end Cert.KernelIdeal.Pay
-- ==== Proof.Value.Sums.lean ====
module

public import proofs.«01_k».proof.Proof.Value.Words
public import Idealize.ShloMosaic.PureOps.Ideal.Laws
public import Idealize.ShloMosaic.Lib.IdealHost

@[expose] public section

/-! # The kernel's products, read at an index over the extended reals -/

set_option maxRecDepth 16384

noncomputable section

namespace Cert.KernelIdeal.Pay

open Idealize.ShloMosaic Idealize.ShloMosaic.ValueIdx
open Cert.KernelIdeal Cert.KernelIdeal.Gen
open scoped BigOperators

/-- The bf16 pattern the codes are shifted by is eight. -/
theorem eight : Ideal.ofBits .bf16 0x4100#16 = ((8 : ℝ) : EReal) := by
  simp [Ideal.ofBits, Ideal.ieee, -EReal.coe_mul]; norm_num

/-- The f32 pattern of the reference's scaling constants is sixteen. -/
theorem sixteen : Ideal.ofBits .f32 0x41800000#32 = ((16 : ℝ) : EReal) := by
  simp [Ideal.ofBits, Ideal.ieee, -EReal.coe_mul]; norm_num

/-- Sixteen sixteenths are one. -/
theorem sixteen_div : Ideal.div (Ideal.ofBits .f32 0x41800000#32) (Ideal.ofBits .f32 0x41800000#32) = 1 := by
  rw [sixteen]
  unfold Ideal.div
  rw [if_neg (by rw [← EReal.coe_zero]; exact fun h => by have := EReal.coe_injective h; norm_num at this),
    ← EReal.coe_inv, ← EReal.coe_mul]
  norm_num

/-- The weight code held in a byte's low four bits. -/
def codeLo (b : BitVec 8) : EReal := (((loB b).toInt : ℝ) : EReal) - ((8 : ℝ) : EReal)
/-- The weight code held in a byte's high four bits. -/
def codeHi (b : BitVec 8) : EReal := (((hiB b).toInt : ℝ) : EReal) - ((8 : ℝ) : EReal)

/-- A column block's product over one stretch of 1024 output features. -/
theorem mm_acc (a : FVec Ideal S1024x1024 .bf16) (b : FVec Ideal S1024x256 .bf16) (r : Fin 1024) (c : Fin 256) :
    matmul dot_S1024x1024_S1024x256_S1024x256_1_0_0_1_n_n none a b (constant S1024x256 .f32 0x00000000#32) (ix2 r c)
      = ∑ k : Fin 1024, a (ix2 r k) * b (ix2 k c) := by
  refine (Ideal.matmul_constant_zero_apply dot_S1024x1024_S1024x256_S1024x256_1_0_0_1_n_n none a b _).trans ?_
  rw [← Equiv.sum_comp (contrEquiv1 dot_S1024x1024_S1024x256_S1024x256_1_0_0_1_n_n 1024 rfl rfl).symm]
  refine Finset.sum_congr rfl fun k _ => ?_
  refine congrArg₂ (· * ·) (congrArg a (funext fun d => Fin.ext ?_)) (congrArg b (funext fun d => Fin.ext ?_))
  · match d with
    | ⟨0, _⟩ => rfl
    | ⟨1, _⟩ => rfl
  · match d with
    | ⟨0, _⟩ => rfl
    | ⟨1, _⟩ => rfl

/-- The adapter's product over the 16 ranks. -/
theorem mm_lora (a : FVec Ideal S1024x16 .bf16) (b : FVec Ideal S16x256 .bf16) (r : Fin 1024) (c : Fin 256) :
    matmul dot_S1024x16_S16x256_S1024x256_1_0_0_1_n_n none a b (constant S1024x256 .f32 0x00000000#32) (ix2 r c)
      = ∑ k : Fin 16, a (ix2 r k) * b (ix2 k c) := by
  refine (Ideal.matmul_constant_zero_apply dot_S1024x16_S16x256_S1024x256_1_0_0_1_n_n none a b _).trans ?_
  rw [← Equiv.sum_comp (contrEquiv1 dot_S1024x16_S16x256_S1024x256_1_0_0_1_n_n 16 rfl rfl).symm]
  refine Finset.sum_congr rfl fun k _ => ?_
  refine congrArg₂ (· * ·) (congrArg a (funext fun d => Fin.ext ?_)) (congrArg b (funext fun d => Fin.ext ?_))
  · match d with
    | ⟨0, _⟩ => rfl
    | ⟨1, _⟩ => rfl
  · match d with
    | ⟨0, _⟩ => rfl
    | ⟨1, _⟩ => rfl

/-- The gradient through the second adapter, transposed. -/
theorem mm_gt (a : FVec Ideal S16x8192 .bf16) (b : FVec Ideal S1024x8192 .bf16) (r : Fin 16) (c : Fin 1024) :
    matmul dot_S16x8192_S1024x8192_S16x1024_1_1_0_0_n_n none a b (constant S16x1024 .f32 0x00000000#32) (ix2 r c)
      = ∑ k : Fin 8192, a (ix2 r k) * b (ix2 c k) := by
  refine (Ideal.matmul_constant_zero_apply dot_S16x8192_S1024x8192_S16x1024_1_1_0_0_n_n none a b _).trans ?_
  rw [← Equiv.sum_comp (contrEquiv1 dot_S16x8192_S1024x8192_S16x1024_1_1_0_0_n_n 8192 rfl rfl).symm]
  refine Finset.sum_congr rfl fun k _ => ?_
  refine congrArg₂ (· * ·) (congrArg a (funext fun d => Fin.ext ?_)) (congrArg b (funext fun d => Fin.ext ?_))
  · match d with
    | ⟨0, _⟩ => rfl
    | ⟨1, _⟩ => rfl
  · match d with
    | ⟨0, _⟩ => rfl
    | ⟨1, _⟩ => rfl

/-- The first adapter's activations, transposed. -/
theorem mm_xat (a : FVec Ideal S16x3072 .bf16) (b : FVec Ideal S1024x3072 .bf16) (r : Fin 16) (c : Fin 1024) :
    matmul dot_S16x3072_S1024x3072_S16x1024_1_1_0_0_n_n none a b (constant S16x1024 .f32 0x00000000#32) (ix2 r c)
      = ∑ k : Fin 3072, a (ix2 r k) * b (ix2 c k) := by
  refine (Ideal.matmul_constant_zero_apply dot_S16x3072_S1024x3072_S16x1024_1_1_0_0_n_n none a b _).trans ?_
  rw [← Equiv.sum_comp (contrEquiv1 dot_S16x3072_S1024x3072_S16x1024_1_1_0_0_n_n 3072 rfl rfl).symm]
  refine Finset.sum_congr rfl fun k _ => ?_
  refine congrArg₂ (· * ·) (congrArg a (funext fun d => Fin.ext ?_)) (congrArg b (funext fun d => Fin.ext ?_))
  · match d with
    | ⟨0, _⟩ => rfl
    | ⟨1, _⟩ => rfl
  · match d with
    | ⟨0, _⟩ => rfl
    | ⟨1, _⟩ => rfl

/-- The first adapter's gradient, transposed. -/
theorem mm_dat (a : FVec Ideal S16x1024 .bf16) (b : FVec Ideal S1024x3072 .bf16) (r : Fin 16) (c : Fin 3072) :
    matmul dot_S16x1024_S1024x3072_S16x3072_1_0_0_1_n_n none a b (constant S16x3072 .f32 0x00000000#32) (ix2 r c)
      = ∑ k : Fin 1024, a (ix2 r k) * b (ix2 k c) := by
  refine (Ideal.matmul_constant_zero_apply dot_S16x1024_S1024x3072_S16x3072_1_0_0_1_n_n none a b _).trans ?_
  rw [← Equiv.sum_comp (contrEquiv1 dot_S16x1024_S1024x3072_S16x3072_1_0_0_1_n_n 1024 rfl rfl).symm]
  refine Finset.sum_congr rfl fun k _ => ?_
  refine congrArg₂ (· * ·) (congrArg a (funext fun d => Fin.ext ?_)) (congrArg b (funext fun d => Fin.ext ?_))
  · match d with
    | ⟨0, _⟩ => rfl
    | ⟨1, _⟩ => rfl
  · match d with
    | ⟨0, _⟩ => rfl
    | ⟨1, _⟩ => rfl

/-- The second adapter's gradient. -/
theorem mm_db (a : FVec Ideal S16x1024 .bf16) (b : FVec Ideal S1024x8192 .bf16) (r : Fin 16) (c : Fin 8192) :
    matmul dot_S16x1024_S1024x8192_S16x8192_1_0_0_1_n_n none a b (constant S16x8192 .f32 0x00000000#32) (ix2 r c)
      = ∑ k : Fin 1024, a (ix2 r k) * b (ix2 k c) := by
  refine (Ideal.matmul_constant_zero_apply dot_S16x1024_S1024x8192_S16x8192_1_0_0_1_n_n none a b _).trans ?_
  rw [← Equiv.sum_comp (contrEquiv1 dot_S16x1024_S1024x8192_S16x8192_1_0_0_1_n_n 1024 rfl rfl).symm]
  refine Finset.sum_congr rfl fun k _ => ?_
  refine congrArg₂ (· * ·) (congrArg a (funext fun d => Fin.ext ?_)) (congrArg b (funext fun d => Fin.ext ?_))
  · match d with
    | ⟨0, _⟩ => rfl
    | ⟨1, _⟩ => rfl
  · match d with
    | ⟨0, _⟩ => rfl
    | ⟨1, _⟩ => rfl

/-! ## The payloads -/

theorem pay2_apply (lb : FVec Ideal S16x8192 .bf16) (dy : FVec Ideal S1024x8192 .bf16) (r : Fin 16) (t : Fin 1024) :
    k0_pay2 (F := Ideal) lb dy (ix2 r t) = ∑ n : Fin 8192, lb (ix2 r n) * dy (ix2 t n) := by
  unfold k0_pay2
  rw [truncf_apply, shapeCast_self]
  exact mm_gt lb dy r t

theorem pay3_apply (at' : FVec Ideal S16x3072 .bf16) (x : FVec Ideal S1024x3072 .bf16) (r : Fin 16) (t : Fin 1024) :
    k0_pay3 (F := Ideal) at' x (ix2 r t) = ∑ n : Fin 3072, at' (ix2 r n) * x (ix2 t n) := by
  unfold k0_pay3
  rw [truncf_apply, shapeCast_self, shapeCast_self]
  exact mm_xat at' x r t

theorem pay4_apply (lb : FVec Ideal S16x8192 .bf16) (dy : FVec Ideal S1024x8192 .bf16) (t : Fin 1024) (r : Fin 16) :
    k0_pay4 (F := Ideal) lb dy (ix2 t r) = ∑ n : Fin 8192, lb (ix2 r n) * dy (ix2 t n) := by
  unfold k0_pay4
  rw [shapeCast_self, truncf_apply]
  refine (transpose_apply _ _ _ _ (ix2 r t) ?_).trans ?_
  · intro b
    match b with
    | ⟨0, _⟩ => rfl
    | ⟨1, _⟩ => rfl
  · rw [extf_apply]
    exact pay2_apply lb dy r t

theorem pay5_apply (lb : FVec Ideal S16x8192 .bf16) (dy : FVec Ideal S1024x8192 .bf16) (x : FVec Ideal S1024x3072 .bf16)
    (r : Fin 16) (c : Fin 3072) :
    k0_pay5 (F := Ideal) lb dy x (ix2 r c)
      = ∑ t : Fin 1024, (∑ n : Fin 8192, lb (ix2 r n) * dy (ix2 t n)) * x (ix2 t c) := by
  unfold k0_pay5
  rw [mulf_apply, shapeCast_self]
  refine (congrArg₂ (· * ·) Ideal.ofBits_one_f32 (mm_dat (k0_pay2 lb dy) x r c)).trans ?_
  rw [one_mul]
  exact Finset.sum_congr rfl fun t _ => by rw [pay2_apply]

theorem pay6_apply (at' : FVec Ideal S16x3072 .bf16) (x : FVec Ideal S1024x3072 .bf16) (dy : FVec Ideal S1024x8192 .bf16)
    (r : Fin 16) (c : Fin 8192) :
    k0_pay6 (F := Ideal) at' x dy (ix2 r c)
      = ∑ t : Fin 1024, (∑ n : Fin 3072, at' (ix2 r n) * x (ix2 t n)) * dy (ix2 t c) := by
  unfold k0_pay6
  rw [mulf_apply, shapeCast_self]
  refine (congrArg₂ (· * ·) Ideal.ofBits_one_f32 (mm_db (k0_pay3 at' x) dy r c)).trans ?_
  rw [one_mul]
  exact Finset.sum_congr rfl fun t _ => by rw [pay3_apply]

/-- A strip of 128 output features of the scales, turned on its side and filled up with zeros. -/
theorem pay7_apply (x : FVec Ideal S24x128 .bf16) (a l : Fin 128) :
    k0_pay7 (F := Ideal) x (ix2 a l) = if h : l.val < 24 then x (ix2 ⟨l.val, h⟩ a) else 0 := by
  unfold k0_pay7
  rw [shapeCast_self, truncf_apply]
  refine (transpose_apply _ _ _ _ (ix2 l a) ?_).trans ?_
  · intro b
    match b with
    | ⟨0, _⟩ => rfl
    | ⟨1, _⟩ => rfl
  by_cases h : l.val < 24
  · rw [dif_pos h]
    refine (concatenate_pair_apply_left (t := S128x128) (s₁ := S24x128) (s₂ := S104x128) 0 _ _ _ _ rfl (ix2 ⟨l.val, h⟩ a) ?_).trans ?_
    · intro b
      match b with
      | ⟨0, _⟩ => rfl
      | ⟨1, _⟩ => rfl
    · rw [extf_apply, shapeCast_self]
  · rw [dif_neg h]
    refine (concatenate_pair_apply_right (t := S128x128) (s₁ := S24x128) (s₂ := S104x128) 0 _ _ _ _ rfl rfl (ix2 ⟨l.val - 24, by omega⟩ a) ?_ ?_).trans ?_
    · intro b hb
      match b with
      | ⟨0, _⟩ => exact absurd rfl hb
      | ⟨1, _⟩ => rfl
    · show l.val - 24 + 24 = l.val
      omega
    · exact Ideal.ofBits_zero_f32

/-- What one stretch adds to the even columns' sums. -/
theorem pay97_apply (v : BitVec 32) (j : Nat) (hj : j < 6) (hv : v = BitVec.ofNat 32 (4 * j))
    (w : IVec S1024x256 8) (s : FVec Ideal S1024x128 .bf16) (dy : FVec Ideal S1024x1024 .bf16) (acc : FVec Ideal S1024x256 .f32)
    (t : Fin 1024) (c : Fin 256) :
    k0_pay97 (F := Ideal) (k0_pay84 (F := Ideal) w) (k0_pay86 s) (k0_pay89 v (k0_pay86 s) k0_pay87 k0_pay88)
      (k0_pay90 v (iota .tc S1024x128 32 [1] iota_S1024x128_d1_w32))
      (k0_pay91 v (iota .tc S1024x128 32 [1] iota_S1024x128_d1_w32))
      (k0_pay92 v (iota .tc S1024x128 32 [1] iota_S1024x128_d1_w32)) dy acc (ix2 t c)
      = acc (ix2 t c) + ∑ n : Fin 1024, dy (ix2 t n) * (codeLo (w (ix2 n c)) * s (ix2 n ⟨4 * j + c.val / 64, by omega⟩)) := by
  unfold k0_pay97 k0_pay96
  rw [shapeCast_self, shapeCast_self, addf_apply]
  refine congrArg (acc (ix2 t c) + ·) ((mm_acc _ _ t c).trans (Finset.sum_congr rfl fun n _ => ?_))
  rw [mulf_apply, pay95_apply v j hj hv, subf_apply, sitofp_apply, pay84_apply]
  refine congrArg (dy (ix2 t n) * ·) (congrArg₂ (· * ·) ?_ rfl)
  exact congrArg (fun z => (((loB (w (ix2 n c))).toInt : ℝ) : EReal) - z) eight

/-- What one stretch adds to the odd columns' sums. -/
theorem pay98_apply (v : BitVec 32) (j : Nat) (hj : j < 6) (hv : v = BitVec.ofNat 32 (4 * j))
    (w : IVec S1024x256 8) (s : FVec Ideal S1024x128 .bf16) (dy : FVec Ideal S1024x1024 .bf16) (acc : FVec Ideal S1024x256 .f32)
    (t : Fin 1024) (c : Fin 256) :
    k0_pay98 (F := Ideal) (k0_pay85 (F := Ideal) w) (k0_pay86 s) (k0_pay89 v (k0_pay86 s) k0_pay87 k0_pay88)
      (k0_pay90 v (iota .tc S1024x128 32 [1] iota_S1024x128_d1_w32))
      (k0_pay91 v (iota .tc S1024x128 32 [1] iota_S1024x128_d1_w32))
      (k0_pay92 v (iota .tc S1024x128 32 [1] iota_S1024x128_d1_w32)) dy acc (ix2 t c)
      = acc (ix2 t c) + ∑ n : Fin 1024, dy (ix2 t n) * (codeHi (w (ix2 n c)) * s (ix2 n ⟨4 * j + c.val / 64, by omega⟩)) := by
  unfold k0_pay98 k0_pay96
  rw [shapeCast_self, shapeCast_self, addf_apply]
  refine congrArg (acc (ix2 t c) + ·) ((mm_acc _ _ t c).trans (Finset.sum_congr rfl fun n _ => ?_))
  rw [mulf_apply, pay95_apply v j hj hv, subf_apply, sitofp_apply, pay85_apply]
  refine congrArg (dy (ix2 t n) * ·) (congrArg₂ (· * ·) ?_ rfl)
  exact congrArg (fun z => (((hiB (w (ix2 n c))).toInt : ℝ) : EReal) - z) eight

/-- The sums start at zero. -/
theorem pay94_apply (y : S1024x512.Idx) : k0_pay94 (F := Ideal) y = 0 := by
  unfold k0_pay94
  rw [shapeCast_self]
  exact Ideal.ofBits_zero_f32

/-- A finished sum with the adapter's product added. -/
theorem pay99_apply (acc : FVec Ideal S1024x256 .f32) (g : FVec Ideal S1024x16 .bf16) (ad : FVec Ideal S16x256 .bf16)
    (t : Fin 1024) (c : Fin 256) :
    k0_pay99 (F := Ideal) acc g ad (ix2 t c) = acc (ix2 t c) + ∑ r : Fin 16, g (ix2 t r) * ad (ix2 r c) := by
  unfold k0_pay99
  rw [truncf_apply, addf_apply, mulf_apply, shapeCast_self]
  refine congrArg (acc (ix2 t c) + ·) ((congrArg₂ (· * ·) Ideal.ofBits_one_f32 (mm_lora g ad t c)).trans ?_)
  exact one_mul _

theorem pay100_eq (acc : FVec Ideal S1024x256 .f32) (g : FVec Ideal S1024x16 .bf16) (ad : FVec Ideal S16x256 .bf16) :
    k0_pay100 (F := Ideal) acc g ad = k0_pay99 acc g ad := rfl

theorem pay101_apply (acc : FVec Ideal S1024x256 .f32) (g : FVec Ideal S1024x16 .bf16) (ad : FVec Ideal S16x256 .bf16)
    (t : Fin 1024) (c : Fin 128) :
    k0_pay101 (F := Ideal) acc g ad (ix2 t c) = k0_pay99 (F := Ideal) acc g ad (ix2 t ⟨c.val, by omega⟩) := by
  unfold k0_pay101
  rw [extf_apply]
  refine extractStridedSlice_apply _ _ _ _ _ ?_
  intro a
  match a with
  | ⟨0, _⟩ => exact (Nat.zero_add _).symm
  | ⟨1, _⟩ => exact (Nat.zero_add _).symm

theorem pay102_apply (acc : FVec Ideal S1024x256 .f32) (g : FVec Ideal S1024x16 .bf16) (ad : FVec Ideal S16x256 .bf16)
    (t : Fin 1024) (c : Fin 128) :
    k0_pay102 (F := Ideal) acc g ad (ix2 t c) = k0_pay99 (F := Ideal) acc g ad (ix2 t ⟨c.val, by omega⟩) :=
  pay101_apply acc g ad t c

end Cert.KernelIdeal.Pay
-- ==== Proof.Value.Loop.lean ====
module

public import proofs.«01_k».proof.Proof.Ideal.Frame
public import Idealize.ShloMosaic.Lib.Pipeline.ValueKit
public import Idealize.ShloMosaic.Lib.Tactic
public import proofs.«01_k».proof.Proof.Value.Sums

@[expose] public section

/-! # The loop over the output features

Eight trips of 1024 output features each: a trip adds, to every even column's and every odd column's
running sum, the products over its stretch.  After the eight trips the sums are those over all the
output features. -/

set_option maxRecDepth 16384

noncomputable section

namespace Cert.KernelIdeal.Pay

open Idealize.ShloMosaic hiding ix2
open Idealize.ShloMosaic.TcCoe Idealize.ShloMosaic.Tactic Idealize.SL.Sem
open Idealize.ShloMosaic.ValueIdx
open Cert.KernelIdeal Cert.KernelIdeal.Gen
open scoped BigOperators

theorem off1 : ∀ k : Fin k0_t1_loop.trips, k0_off1 k = ![1024 * k.val, 0] := by decide +kernel
theorem off2 : ∀ k : Fin k0_t1_loop.trips, k0_off2 k = ![1024 * k.val, 0] := by decide +kernel
theorem off3 : ∀ k : Fin k0_t1_loop.trips, k0_off3 k = ![0, 1024 * k.val] := by decide +kernel
theorem trips_eq : k0_t1_loop.trips = 8 := by decide +kernel

/-- The pieces one trip writes: the odd columns' sums, and before them the even columns'. -/
theorem tripL_eq (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty) (k : Fin k0_t1_loop.trips) (f_arg13 : BufTy.Contents (Elt Ideal) arg13.view.ty) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 k f_arg13 = [
      ⟨Rect.unit (s := S1024x512) ![0, 256] S1024x256.size inb_S1024x512_S1024x256_0_256,
        k0_pay98 (F := Ideal) (k0_pay85 (F := Ideal) (View.readAt (Elt Ideal) arg3.view (Rect.unit (s := S8192x256) (k0_off1 k) S1024x256.size (k0_off1_inb k)).toLoadRect X_arg3))
          (k0_pay86 (View.readAt (Elt Ideal) arg14.view (Rect.unit (s := S8192x128) (k0_off2 k) S1024x128.size (k0_off2_inb k)).toLoadRect X_arg14))
          (k0_pay89 (Scalar.muli arg0 4#32) (k0_pay86 (View.readAt (Elt Ideal) arg14.view (Rect.unit (s := S8192x128) (k0_off2 k) S1024x128.size (k0_off2_inb k)).toLoadRect X_arg14)) k0_pay87 k0_pay88)
          (k0_pay90 (Scalar.muli arg0 4#32) (iota .tc S1024x128 32 [1] iota_S1024x128_d1_w32)) (k0_pay91 (Scalar.muli arg0 4#32) (iota .tc S1024x128 32 [1] iota_S1024x128_d1_w32)) (k0_pay92 (Scalar.muli arg0 4#32) (iota .tc S1024x128 32 [1] iota_S1024x128_d1_w32))
          (View.readAt (Elt Ideal) arg2.view (Rect.unit (s := S1024x8192) (k0_off3 k) S1024x1024.size (k0_off3_inb k)).toLoadRect X_arg2)
          (View.readAt (Elt Ideal) arg13.view (Rect.unit (s := S1024x512) ![0, 256] S1024x256.size inb_S1024x512_S1024x256_0_256).toLoadRect f_arg13)⟩,
      ⟨Rect.unit (s := S1024x512) ![0, 0] S1024x256.size inb_S1024x512_S1024x256_0_0,
        k0_pay97 (F := Ideal) (k0_pay84 (F := Ideal) (View.readAt (Elt Ideal) arg3.view (Rect.unit (s := S8192x256) (k0_off1 k) S1024x256.size (k0_off1_inb k)).toLoadRect X_arg3))
          (k0_pay86 (View.readAt (Elt Ideal) arg14.view (Rect.unit (s := S8192x128) (k0_off2 k) S1024x128.size (k0_off2_inb k)).toLoadRect X_arg14))
          (k0_pay89 (Scalar.muli arg0 4#32) (k0_pay86 (View.readAt (Elt Ideal) arg14.view (Rect.unit (s := S8192x128) (k0_off2 k) S1024x128.size (k0_off2_inb k)).toLoadRect X_arg14)) k0_pay87 k0_pay88)
          (k0_pay90 (Scalar.muli arg0 4#32) (iota .tc S1024x128 32 [1] iota_S1024x128_d1_w32)) (k0_pay91 (Scalar.muli arg0 4#32) (iota .tc S1024x128 32 [1] iota_S1024x128_d1_w32)) (k0_pay92 (Scalar.muli arg0 4#32) (iota .tc S1024x128 32 [1] iota_S1024x128_d1_w32))
          (View.readAt (Elt Ideal) arg2.view (Rect.unit (s := S1024x8192) (k0_off3 k) S1024x1024.size (k0_off3_inb k)).toLoadRect X_arg2)
          (View.readAt (Elt Ideal) arg13.view (Rect.unit (s := S1024x512) ![0, 0] S1024x256.size inb_S1024x512_S1024x256_0_0).toLoadRect f_arg13)⟩] := by
  unfold tripL_k0_t1 trip_k0_t1
  dsimp only
  sl_unfold_words
  rfl

/-- The products over one stretch of 1024 output features. -/
def stretch (code : BitVec 8 → EReal) (dy : S1024x8192.Idx → EReal) (w : S8192x256.Idx → BitVec 8) (s : S8192x128.Idx → EReal)
    (j : Fin 6) (t : Fin 1024) (c : Fin 256) (k : Fin 8) : EReal :=
  ∑ n : Fin 1024, dy (ix2 t ⟨1024 * k.val + n.val, by omega⟩)
    * (code (w (ix2 ⟨1024 * k.val + n.val, by omega⟩ c)) * s (ix2 ⟨1024 * k.val + n.val, by omega⟩ ⟨4 * j.val + c.val / 64, by omega⟩))

/-- The running sum after the first `K` stretches. -/
def accSum (code : BitVec 8 → EReal) (dy : S1024x8192.Idx → EReal) (w : S8192x256.Idx → BitVec 8) (s : S8192x128.Idx → EReal)
    (j : Fin 6) (t : Fin 1024) (c : Fin 256) (K : Nat) : EReal :=
  ∑ k ∈ Finset.range K, if h : k < 8 then stretch code dy w s j t c ⟨k, h⟩ else 0

theorem accSum_succ (code : BitVec 8 → EReal) (dy : S1024x8192.Idx → EReal) (w : S8192x256.Idx → BitVec 8) (s : S8192x128.Idx → EReal)
    (j : Fin 6) (t : Fin 1024) (c : Fin 256) (k : Fin 8) :
    accSum code dy w s j t c (k.val + 1) = accSum code dy w s j t c k.val + stretch code dy w s j t c k := by
  unfold accSum
  rw [Finset.sum_range_succ, dif_pos k.isLt]

/-- A place in a rectangle, by coordinates. -/
theorem idx_at {n0 n1 : Nat} {off size : Fin 2 → Nat} {inb} (x : (Rect.unit (s := ⟨2, ![n0, n1]⟩) off size inb).shape.Idx) (o0 o1 : Nat)
    (e : off = ![o0, o1]) (y : (⟨2, ![n0, n1]⟩ : Shape).Idx) (h0 : o0 + (x 0).val = (y 0).val) (h1 : o1 + (x 1).val = (y 1).val) :
    (Rect.unit (s := ⟨2, ![n0, n1]⟩) off size inb).idx x = y := by
  subst e
  exact Shape.idx_ext₂ ((Rect.idx_unit_val _ _ _ x 0).trans h0) ((Rect.idx_unit_val _ _ _ x 1).trans h1)

/-- A place in a rectangle of known offsets. -/
theorem emb_at {n0 n1 : Nat} {off size : Fin 2 → Nat} {inb} (x : (Rect.unit (s := ⟨2, ![n0, n1]⟩) off size inb).shape.Idx) (o0 o1 : Nat)
    (e : off = ![o0, o1]) (y : (⟨2, ![n0, n1]⟩ : Shape).Idx) (h0 : o0 + (x 0).val = (y 0).val) (h1 : o1 + (x 1).val = (y 1).val) :
    (Rect.unit (s := ⟨2, ![n0, n1]⟩) off size inb).emb x = y := by
  subst e
  exact Shape.idx_ext₂ ((ValueKit.rect_emb_unit_val _ _ _ x 0).trans h0) ((ValueKit.rect_emb_unit_val _ _ _ x 1).trans h1)

/-- An index of the left half of the sums. -/
theorem lo_emb (t : Fin 1024) (c : Fin 256) :
    (ix2 t ⟨c.val, by omega⟩ : S1024x512.Idx) = (Rect.unit (s := S1024x512) ![0, 0] S1024x256.size inb_S1024x512_S1024x256_0_0).emb (ix2 t c) :=
  (emb_at (n0 := 1024) (n1 := 512) (inb := inb_S1024x512_S1024x256_0_0) (ix2 t c) 0 0 rfl _ (Nat.zero_add _) (Nat.zero_add _)).symm
/-- An index of the right half of the sums. -/
theorem hi_emb (t : Fin 1024) (c : Fin 256) :
    (ix2 t ⟨256 + c.val, by omega⟩ : S1024x512.Idx) = (Rect.unit (s := S1024x512) ![0, 256] S1024x256.size inb_S1024x512_S1024x256_0_256).emb (ix2 t c) :=
  (emb_at (n0 := 1024) (n1 := 512) (inb := inb_S1024x512_S1024x256_0_256) (ix2 t c) 0 256 rfl _ (Nat.zero_add _) rfl).symm
theorem lo_not_mem (t : Fin 1024) (c : Fin 256) :
    (ix2 t ⟨c.val, by omega⟩ : S1024x512.Idx) ∉ (Rect.unit (s := S1024x512) ![0, 256] S1024x256.size inb_S1024x512_S1024x256_0_256).set := by
  intro h
  have := (Rect.mem_set_unit.1 h) 1
  have h1 : 256 ≤ c.val := this.1
  omega

/-- One trip adds its stretch to the running sums it reads. -/
theorem step97 (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty) (k : Fin k0_t1_loop.trips) (f_arg13 : BufTy.Contents (Elt Ideal) arg13.view.ty)
    (j : Fin 6) (hv : Scalar.muli arg0 4#32 = BitVec.ofNat 32 (4 * j.val))
    (dy : S1024x8192.Idx → EReal) (w : S8192x256.Idx → BitVec 8) (s : S8192x128.Idx → EReal)
    (h2 : ∀ B : LoadRect S1024x8192, View.readAt (Elt Ideal) arg2.view B X_arg2 = fun i => dy (B.idx i))
    (h3 : ∀ B : LoadRect S8192x256, View.readAt (Elt Ideal) arg3.view B X_arg3 = fun i => w (B.idx i))
    (h14 : ∀ B : LoadRect S8192x128, View.readAt (Elt Ideal) arg14.view B X_arg14 = fun i => s (B.idx i))
    (t : Fin 1024) (c' : Fin 256) (z : EReal)
    (hz : View.readAt (Elt Ideal) arg13.view (Rect.unit (s := S1024x512) ![0, 0] S1024x256.size inb_S1024x512_S1024x256_0_0).toLoadRect f_arg13 (ix2 t c') = z) :
    k0_pay97 (F := Ideal) (k0_pay84 (F := Ideal) (View.readAt (Elt Ideal) arg3.view (Rect.unit (s := S8192x256) (k0_off1 k) S1024x256.size (k0_off1_inb k)).toLoadRect X_arg3))
          (k0_pay86 (View.readAt (Elt Ideal) arg14.view (Rect.unit (s := S8192x128) (k0_off2 k) S1024x128.size (k0_off2_inb k)).toLoadRect X_arg14))
          (k0_pay89 (Scalar.muli arg0 4#32) (k0_pay86 (View.readAt (Elt Ideal) arg14.view (Rect.unit (s := S8192x128) (k0_off2 k) S1024x128.size (k0_off2_inb k)).toLoadRect X_arg14)) k0_pay87 k0_pay88)
          (k0_pay90 (Scalar.muli arg0 4#32) (iota .tc S1024x128 32 [1] iota_S1024x128_d1_w32)) (k0_pay91 (Scalar.muli arg0 4#32) (iota .tc S1024x128 32 [1] iota_S1024x128_d1_w32)) (k0_pay92 (Scalar.muli arg0 4#32) (iota .tc S1024x128 32 [1] iota_S1024x128_d1_w32))
          (View.readAt (Elt Ideal) arg2.view (Rect.unit (s := S1024x8192) (k0_off3 k) S1024x1024.size (k0_off3_inb k)).toLoadRect X_arg2)
          (View.readAt (Elt Ideal) arg13.view (Rect.unit (s := S1024x512) ![0, 0] S1024x256.size inb_S1024x512_S1024x256_0_0).toLoadRect f_arg13) (ix2 t c')
      = z + stretch codeLo dy w s j t c' ⟨k.val, trips_eq ▸ k.isLt⟩ := by
  refine (pay97_apply _ j.val j.isLt hv _ _ _ _ t c').trans ?_
  rw [hz]
  refine congrArg (z + ·) (Finset.sum_congr rfl fun n _ => ?_)
  rw [h2, h3, h14]
  refine congrArg₂ (· * ·) (congrArg dy ?_) (congrArg₂ (· * ·) (congrArg codeLo (congrArg w ?_)) (congrArg s ?_))
  · exact idx_at (n0 := 1024) (n1 := 8192) (inb := k0_off3_inb k) (ix2 t n) 0 (1024 * k.val) (off3 k) _ (Nat.zero_add _) rfl
  · exact idx_at (n0 := 8192) (n1 := 256) (inb := k0_off1_inb k) (ix2 n c') (1024 * k.val) 0 (off1 k) _ rfl (Nat.zero_add _)
  · exact idx_at (n0 := 8192) (n1 := 128) (inb := k0_off2_inb k) (ix2 n ⟨4 * j.val + c'.val / 64, by omega⟩) (1024 * k.val) 0 (off2 k) _ rfl (Nat.zero_add _)

/-- One trip adds its stretch to the running sums it reads. -/
theorem step98 (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty) (k : Fin k0_t1_loop.trips) (f_arg13 : BufTy.Contents (Elt Ideal) arg13.view.ty)
    (j : Fin 6) (hv : Scalar.muli arg0 4#32 = BitVec.ofNat 32 (4 * j.val))
    (dy : S1024x8192.Idx → EReal) (w : S8192x256.Idx → BitVec 8) (s : S8192x128.Idx → EReal)
    (h2 : ∀ B : LoadRect S1024x8192, View.readAt (Elt Ideal) arg2.view B X_arg2 = fun i => dy (B.idx i))
    (h3 : ∀ B : LoadRect S8192x256, View.readAt (Elt Ideal) arg3.view B X_arg3 = fun i => w (B.idx i))
    (h14 : ∀ B : LoadRect S8192x128, View.readAt (Elt Ideal) arg14.view B X_arg14 = fun i => s (B.idx i))
    (t : Fin 1024) (c' : Fin 256) (z : EReal)
    (hz : View.readAt (Elt Ideal) arg13.view (Rect.unit (s := S1024x512) ![0, 256] S1024x256.size inb_S1024x512_S1024x256_0_256).toLoadRect f_arg13 (ix2 t c') = z) :
    k0_pay98 (F := Ideal) (k0_pay85 (F := Ideal) (View.readAt (Elt Ideal) arg3.view (Rect.unit (s := S8192x256) (k0_off1 k) S1024x256.size (k0_off1_inb k)).toLoadRect X_arg3))
          (k0_pay86 (View.readAt (Elt Ideal) arg14.view (Rect.unit (s := S8192x128) (k0_off2 k) S1024x128.size (k0_off2_inb k)).toLoadRect X_arg14))
          (k0_pay89 (Scalar.muli arg0 4#32) (k0_pay86 (View.readAt (Elt Ideal) arg14.view (Rect.unit (s := S8192x128) (k0_off2 k) S1024x128.size (k0_off2_inb k)).toLoadRect X_arg14)) k0_pay87 k0_pay88)
          (k0_pay90 (Scalar.muli arg0 4#32) (iota .tc S1024x128 32 [1] iota_S1024x128_d1_w32)) (k0_pay91 (Scalar.muli arg0 4#32) (iota .tc S1024x128 32 [1] iota_S1024x128_d1_w32)) (k0_pay92 (Scalar.muli arg0 4#32) (iota .tc S1024x128 32 [1] iota_S1024x128_d1_w32))
          (View.readAt (Elt Ideal) arg2.view (Rect.unit (s := S1024x8192) (k0_off3 k) S1024x1024.size (k0_off3_inb k)).toLoadRect X_arg2)
          (View.readAt (Elt Ideal) arg13.view (Rect.unit (s := S1024x512) ![0, 256] S1024x256.size inb_S1024x512_S1024x256_0_256).toLoadRect f_arg13) (ix2 t c')
      = z + stretch codeHi dy w s j t c' ⟨k.val, trips_eq ▸ k.isLt⟩ := by
  refine (pay98_apply _ j.val j.isLt hv _ _ _ _ t c').trans ?_
  rw [hz]
  refine congrArg (z + ·) (Finset.sum_congr rfl fun n _ => ?_)
  rw [h2, h3, h14]
  refine congrArg₂ (· * ·) (congrArg dy ?_) (congrArg₂ (· * ·) (congrArg codeHi (congrArg w ?_)) (congrArg s ?_))
  · exact idx_at (n0 := 1024) (n1 := 8192) (inb := k0_off3_inb k) (ix2 t n) 0 (1024 * k.val) (off3 k) _ (Nat.zero_add _) rfl
  · exact idx_at (n0 := 8192) (n1 := 256) (inb := k0_off1_inb k) (ix2 n c') (1024 * k.val) 0 (off1 k) _ rfl (Nat.zero_add _)
  · exact idx_at (n0 := 8192) (n1 := 128) (inb := k0_off2_inb k) (ix2 n ⟨4 * j.val + c'.val / 64, by omega⟩) (1024 * k.val) 0 (off2 k) _ rfl (Nat.zero_add _)

/-- Of two halves written one after the other, the left half reads the first written. -/
theorem canon_lo {e : EltTy} (p q : S1024x256.Idx → Elt Ideal e) (L : List (View.Piece (Elt Ideal) S1024x512 e)) (t : Fin 1024) (c : Fin 256) :
    View.canon (⟨(Rect.unit (s := S1024x512) ![0, 256] S1024x256.size inb_S1024x512_S1024x256_0_256), p⟩ :: ⟨(Rect.unit (s := S1024x512) ![0, 0] S1024x256.size inb_S1024x512_S1024x256_0_0), q⟩ :: L) (ix2 t ⟨c.val, by omega⟩) = q (ix2 t c) := by
  have h1 := View.canon_cons_of_not_mem (Val := Elt Ideal) (⟨(Rect.unit (s := S1024x512) ![0, 256] S1024x256.size inb_S1024x512_S1024x256_0_256), p⟩ : View.Piece (Elt Ideal) S1024x512 e) (⟨(Rect.unit (s := S1024x512) ![0, 0] S1024x256.size inb_S1024x512_S1024x256_0_0), q⟩ :: L) (lo_not_mem t c)
  have h2 := congrArg (View.canon (⟨(Rect.unit (s := S1024x512) ![0, 0] S1024x256.size inb_S1024x512_S1024x256_0_0), q⟩ :: L)) (lo_emb t c)
  exact h1.trans (h2.trans (View.canon_cons_emb (Rect.unit (s := S1024x512) ![0, 0] S1024x256.size inb_S1024x512_S1024x256_0_0) q L (ix2 t c)))
/-- The right half reads the second. -/
theorem canon_hi {e : EltTy} (p : S1024x256.Idx → Elt Ideal e) (L : List (View.Piece (Elt Ideal) S1024x512 e)) (t : Fin 1024) (c : Fin 256) :
    View.canon (⟨(Rect.unit (s := S1024x512) ![0, 256] S1024x256.size inb_S1024x512_S1024x256_0_256), p⟩ :: L) (ix2 t ⟨256 + c.val, by omega⟩) = p (ix2 t c) := by
  rw [hi_emb]
  exact View.canon_cons_emb (Rect.unit (s := S1024x512) ![0, 256] S1024x256.size inb_S1024x512_S1024x256_0_256) p L (ix2 t c)

/-- One trip over the pieces written before it: its stretch is added to the left half's sums. -/
theorem canon_trip_lo (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty)
    (j : Fin 6) (hv : Scalar.muli arg0 4#32 = BitVec.ofNat 32 (4 * j.val))
    (dy : S1024x8192.Idx → EReal) (w : S8192x256.Idx → BitVec 8) (s : S8192x128.Idx → EReal)
    (h2 : ∀ B : LoadRect S1024x8192, View.readAt (Elt Ideal) arg2.view B X_arg2 = fun i => dy (B.idx i))
    (h3 : ∀ B : LoadRect S8192x256, View.readAt (Elt Ideal) arg3.view B X_arg3 = fun i => w (B.idx i))
    (h14 : ∀ B : LoadRect S8192x128, View.readAt (Elt Ideal) arg14.view B X_arg14 = fun i => s (B.idx i)) (k : Fin k0_t1_loop.trips)
    (L : List (View.Piece (Elt Ideal) S1024x512 .f32)) (t : Fin 1024) (c' : Fin 256) :
    View.canon (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 k (arg13.view.writes (Elt Ideal) arg13.view.junk L) ++ L) (ix2 t ⟨c'.val, by omega⟩)
      = View.canon L (ix2 t ⟨c'.val, by omega⟩) + stretch codeLo dy w s j t c' ⟨k.val, trips_eq ▸ k.isLt⟩ := by
  rw [tripL_eq, List.cons_append, List.cons_append, List.nil_append]
  refine (canon_lo _ _ L t c').trans (step97 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 k _ j hv dy w s h2 h3 h14 t c' _ ?_)
  rw [View.readAt_writes_junk_eq_canon]
  exact congrArg (View.canon L) (lo_emb t c').symm
/-- One trip over the pieces written before it: its stretch is added to the right half's sums. -/
theorem canon_trip_hi (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty)
    (j : Fin 6) (hv : Scalar.muli arg0 4#32 = BitVec.ofNat 32 (4 * j.val))
    (dy : S1024x8192.Idx → EReal) (w : S8192x256.Idx → BitVec 8) (s : S8192x128.Idx → EReal)
    (h2 : ∀ B : LoadRect S1024x8192, View.readAt (Elt Ideal) arg2.view B X_arg2 = fun i => dy (B.idx i))
    (h3 : ∀ B : LoadRect S8192x256, View.readAt (Elt Ideal) arg3.view B X_arg3 = fun i => w (B.idx i))
    (h14 : ∀ B : LoadRect S8192x128, View.readAt (Elt Ideal) arg14.view B X_arg14 = fun i => s (B.idx i)) (k : Fin k0_t1_loop.trips)
    (L : List (View.Piece (Elt Ideal) S1024x512 .f32)) (t : Fin 1024) (c' : Fin 256) :
    View.canon (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 k (arg13.view.writes (Elt Ideal) arg13.view.junk L) ++ L) (ix2 t ⟨256 + c'.val, by omega⟩)
      = View.canon L (ix2 t ⟨256 + c'.val, by omega⟩) + stretch codeHi dy w s j t c' ⟨k.val, trips_eq ▸ k.isLt⟩ := by
  rw [tripL_eq, List.cons_append, List.cons_append, List.nil_append]
  refine (canon_hi _ _ t c').trans (step98 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 k _ j hv dy w s h2 h3 h14 t c' _ ?_)
  rw [View.readAt_writes_junk_eq_canon]
  exact congrArg (View.canon L) (hi_emb t c').symm

/-- The sums before the first trip are zero. -/
theorem canon_zero (y : S1024x512.Idx) : View.canon ([⟨Rect.unit (s := S1024x512) ![0, 0] S1024x512.size inb_S1024x512_S1024x512_0_0, k0_pay94 (F := Ideal)⟩] : List (View.Piece (Elt Ideal) S1024x512 .f32)) y = 0 :=
  (congrFun (View.canon_unit_zero (funext fun a => by fin_cases a <;> rfl) _ _) _).trans (pay94_apply _)

/-- The pieces before trip `K + 1` are those of trip `K` over those before it. -/
theorem pb_step (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty) (k : Fin k0_t1_loop.trips) :
    pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 (arg13.view.writes (Elt Ideal) arg13.view.junk [⟨Rect.unit (s := S1024x512) ![0, 0] S1024x512.size inb_S1024x512_S1024x512_0_0, k0_pay94 (F := Ideal)⟩]) (k.val + 1) ++ [⟨Rect.unit (s := S1024x512) ![0, 0] S1024x512.size inb_S1024x512_S1024x512_0_0, k0_pay94 (F := Ideal)⟩]
      = tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 k (arg13.view.writes (Elt Ideal) arg13.view.junk (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 (arg13.view.writes (Elt Ideal) arg13.view.junk [⟨Rect.unit (s := S1024x512) ![0, 0] S1024x512.size inb_S1024x512_S1024x512_0_0, k0_pay94 (F := Ideal)⟩]) k.val ++ [⟨Rect.unit (s := S1024x512) ![0, 0] S1024x512.size inb_S1024x512_S1024x512_0_0, k0_pay94 (F := Ideal)⟩])) ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 (arg13.view.writes (Elt Ideal) arg13.view.junk [⟨Rect.unit (s := S1024x512) ![0, 0] S1024x512.size inb_S1024x512_S1024x512_0_0, k0_pay94 (F := Ideal)⟩]) k.val ++ [⟨Rect.unit (s := S1024x512) ![0, 0] S1024x512.size inb_S1024x512_S1024x512_0_0, k0_pay94 (F := Ideal)⟩]) := by
  rw [View.writes_append, pb_k0_t1_succ, List.append_assoc]

/-- The sums the trips before `K` leave in the left half. -/
theorem canon_pb_lo (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty)
    (j : Fin 6) (hv : Scalar.muli arg0 4#32 = BitVec.ofNat 32 (4 * j.val))
    (dy : S1024x8192.Idx → EReal) (w : S8192x256.Idx → BitVec 8) (s : S8192x128.Idx → EReal)
    (h2 : ∀ B : LoadRect S1024x8192, View.readAt (Elt Ideal) arg2.view B X_arg2 = fun i => dy (B.idx i))
    (h3 : ∀ B : LoadRect S8192x256, View.readAt (Elt Ideal) arg3.view B X_arg3 = fun i => w (B.idx i))
    (h14 : ∀ B : LoadRect S8192x128, View.readAt (Elt Ideal) arg14.view B X_arg14 = fun i => s (B.idx i))
    (K : Nat) (hK : K ≤ 8) (t : Fin 1024) (c' : Fin 256) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 (arg13.view.writes (Elt Ideal) arg13.view.junk [⟨Rect.unit (s := S1024x512) ![0, 0] S1024x512.size inb_S1024x512_S1024x512_0_0, k0_pay94 (F := Ideal)⟩]) K ++ [⟨Rect.unit (s := S1024x512) ![0, 0] S1024x512.size inb_S1024x512_S1024x512_0_0, k0_pay94 (F := Ideal)⟩]) (ix2 t ⟨c'.val, by omega⟩) = accSum codeLo dy w s j t c' K := by
  induction K with
  | zero =>
    rw [pb_k0_t1.eq_1, List.nil_append]
    exact (canon_zero _).trans (by unfold accSum; rfl)
  | succ k ih =>
    have hk : k < k0_t1_loop.trips := by rw [trips_eq]; omega
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 (arg13.view.writes (Elt Ideal) arg13.view.junk [⟨Rect.unit (s := S1024x512) ![0, 0] S1024x512.size inb_S1024x512_S1024x512_0_0, k0_pay94 (F := Ideal)⟩]) (k + 1) ++ [⟨Rect.unit (s := S1024x512) ![0, 0] S1024x512.size inb_S1024x512_S1024x512_0_0, k0_pay94 (F := Ideal)⟩] = _ from pb_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 ⟨k, hk⟩]
    refine (canon_trip_lo 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 j hv dy w s h2 h3 h14 ⟨k, hk⟩ _ t c').trans ?_
    rw [ih (by omega)]
    exact (accSum_succ codeLo dy w s j t c' ⟨k, by omega⟩).symm
/-- The sums the trips before `K` leave in the right half. -/
theorem canon_pb_hi (𝒱 : Variants) (c : Dev nD) (bd : Option 𝒱.V) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (arg0 : BitVec 32) (X_arg2 : BufTy.Contents (Elt Ideal) arg2.view.ty) (X_arg3 : BufTy.Contents (Elt Ideal) arg3.view.ty) (X_arg14 : BufTy.Contents (Elt Ideal) arg14.view.ty)
    (j : Fin 6) (hv : Scalar.muli arg0 4#32 = BitVec.ofNat 32 (4 * j.val))
    (dy : S1024x8192.Idx → EReal) (w : S8192x256.Idx → BitVec 8) (s : S8192x128.Idx → EReal)
    (h2 : ∀ B : LoadRect S1024x8192, View.readAt (Elt Ideal) arg2.view B X_arg2 = fun i => dy (B.idx i))
    (h3 : ∀ B : LoadRect S8192x256, View.readAt (Elt Ideal) arg3.view B X_arg3 = fun i => w (B.idx i))
    (h14 : ∀ B : LoadRect S8192x128, View.readAt (Elt Ideal) arg14.view B X_arg14 = fun i => s (B.idx i))
    (K : Nat) (hK : K ≤ 8) (t : Fin 1024) (c' : Fin 256) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 (arg13.view.writes (Elt Ideal) arg13.view.junk [⟨Rect.unit (s := S1024x512) ![0, 0] S1024x512.size inb_S1024x512_S1024x512_0_0, k0_pay94 (F := Ideal)⟩]) K ++ [⟨Rect.unit (s := S1024x512) ![0, 0] S1024x512.size inb_S1024x512_S1024x512_0_0, k0_pay94 (F := Ideal)⟩]) (ix2 t ⟨256 + c'.val, by omega⟩) = accSum codeHi dy w s j t c' K := by
  induction K with
  | zero =>
    rw [pb_k0_t1.eq_1, List.nil_append]
    exact (canon_zero _).trans (by unfold accSum; rfl)
  | succ k ih =>
    have hk : k < k0_t1_loop.trips := by rw [trips_eq]; omega
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 (arg13.view.writes (Elt Ideal) arg13.view.junk [⟨Rect.unit (s := S1024x512) ![0, 0] S1024x512.size inb_S1024x512_S1024x512_0_0, k0_pay94 (F := Ideal)⟩]) (k + 1) ++ [⟨Rect.unit (s := S1024x512) ![0, 0] S1024x512.size inb_S1024x512_S1024x512_0_0, k0_pay94 (F := Ideal)⟩] = _ from pb_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 ⟨k, hk⟩]
    refine (canon_trip_hi 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg2 X_arg3 X_arg14 j hv dy w s h2 h3 h14 ⟨k, hk⟩ _ t c').trans ?_
    rw [ih (by omega)]
    exact (accSum_succ codeHi dy w s j t c' ⟨k, by omega⟩).symm

/-- The sum over all the output features. -/
theorem accSum_all (code : BitVec 8 → EReal) (dy : S1024x8192.Idx → EReal) (w : S8192x256.Idx → BitVec 8) (s : S8192x128.Idx → EReal)
    (j : Fin 6) (t : Fin 1024) (c : Fin 256) :
    accSum code dy w s j t c 8
      = ∑ n : Fin 8192, dy (ix2 t n) * (code (w (ix2 n c)) * s (ix2 n ⟨4 * j.val + c.val / 64, by omega⟩)) := by
  unfold accSum
  rw [Finset.sum_range]
  refine Eq.trans ?_ (Fin.sum_mul_add_fin 8 1024 (fun n : Fin 8192 => dy (ix2 t n) * (code (w (ix2 n c)) * s (ix2 n ⟨4 * j.val + c.val / 64, by omega⟩))) rfl)
  refine Finset.sum_congr rfl fun k _ => ?_
  rw [dif_pos k.isLt]
  unfold stretch
  refine Finset.sum_congr rfl fun n _ => ?_
  have e : 1024 * k.val + n.val = k.val * 1024 + n.val := by omega
  simp only [e]

end Cert.KernelIdeal.Pay
-- ==== Proof.Value.Outputs.lean ====
module

public import proofs.«01_k».proof.Proof.Ideal.Frame
public import Idealize.ShloMosaic.Lib.Pipeline.ValueKit
public import Idealize.ShloMosaic.Lib.Tactic
public import proofs.«01_k».proof.Proof.Value.Loop

@[expose] public section

/-! # What a grid point leaves in the block of the input gradient

The even and the odd columns of a block of 512 are summed apart, each gets the adapter's part, and they
are written side by side again. -/

set_option maxRecDepth 16384

noncomputable section

namespace Cert.KernelIdeal.Pay

open Idealize.ShloMosaic hiding ix2
open Idealize.ShloMosaic.TcCoe Idealize.ShloMosaic.Tactic Idealize.SL.Sem
open Idealize.ShloMosaic.ValueIdx
open Cert.KernelIdeal Cert.KernelIdeal.Gen
open scoped BigOperators

/-- The two halves of the block, each the even and the odd columns' sums side by side. -/
theorem dx_pieces (a0 a1 : FVec Ideal S1024x256 .f32) (g : FVec Ideal S1024x16 .bf16) (d0 d1 : FVec Ideal S16x256 .bf16)
    (t : Fin 1024) (c : Fin 512) :
    View.canon ([⟨Rect.unit (s := S1024x512) ![0, 256] S1024x256.size inb_S1024x512_S1024x256_0_256, k0_pay1 (F := Ideal) (k0_pay108 (k0_pay100 (F := Ideal) a1 g d1)) k0_pay109 (k0_pay110 (k0_pay99 (F := Ideal) a0 g d0) (k0_pay100 (F := Ideal) a1 g d1)) k0_pay111 (k0_pay112 (k0_pay99 (F := Ideal) a0 g d0))⟩, ⟨Rect.unit (s := S1024x512) ![0, 0] S1024x256.size inb_S1024x512_S1024x256_0_0, k0_pay106 (F := Ideal) (k0_pay104 (k0_pay101 (F := Ideal) a0 g d0) (k0_pay102 (F := Ideal) a1 g d1) (iota .tc S1024x128 32 [1] iota_S1024x128_d1_w32)) (k0_pay105 (k0_pay101 (F := Ideal) a0 g d0) (k0_pay102 (F := Ideal) a1 g d1) (iota .tc S1024x128 32 [1] iota_S1024x128_d1_w32))⟩] : List (View.Piece (Elt Ideal) S1024x512 .bf16)) (ix2 t c)
      = if c.val % 2 = 0 then a0 (ix2 t ⟨c.val / 2, by omega⟩) + ∑ r : Fin 16, g (ix2 t r) * d0 (ix2 r ⟨c.val / 2, by omega⟩)
        else a1 (ix2 t ⟨c.val / 2, by omega⟩) + ∑ r : Fin 16, g (ix2 t r) * d1 (ix2 r ⟨c.val / 2, by omega⟩) := by
  by_cases hc : c.val < 256
  · refine (canon_lo _ _ [] t ⟨c.val, hc⟩).trans ?_
    rw [inter0_apply, pay101_apply, pay102_apply, pay99_apply, pay99_apply]
  · have e : c = ⟨256 + (c.val - 256), by omega⟩ := Fin.ext (by show c.val = 256 + (c.val - 256); omega)
    have hq : 128 + (c.val - 256) / 2 = c.val / 2 := by omega
    have hp : (c.val - 256) % 2 = c.val % 2 := by omega
    refine (congrArg _ (congrArg (ix2 t) e)).trans ((canon_hi _ _ t ⟨c.val - 256, by omega⟩).trans ?_)
    rw [inter1_apply, pay100_eq, pay99_apply, pay99_apply]
    simp only [hq, hp]

/-- An entry of the block of the input gradient at block `j`: the products with the dequantized weights, and the adapter's part. -/
def dxTile (dy : S1024x8192.Idx → EReal) (w : S8192x256.Idx → BitVec 8) (s : S8192x128.Idx → EReal) (g : S1024x16.Idx → EReal)
    (d : S16x512.Idx → EReal) (j : Fin 6) (t : Fin 1024) (c : Fin 512) : EReal :=
  if c.val % 2 = 0 then accSum codeLo dy w s j t ⟨c.val / 2, by omega⟩ 8 + ∑ r : Fin 16, g (ix2 t r) * d (ix2 r ⟨c.val / 2, by omega⟩)
  else accSum codeHi dy w s j t ⟨c.val / 2, by omega⟩ 8 + ∑ r : Fin 16, g (ix2 t r) * d (ix2 r ⟨256 + c.val / 2, by omega⟩)

/-- The group number's multiple of four, as a word. -/
theorem four_word (j : Nat) : Scalar.muli (BitVec.ofNat 32 j) 4#32 = BitVec.ofNat 32 (4 * j) := by
  show BitVec.ofNat 32 j * 4#32 = _
  rw [Nat.mul_comm 4 j, BitVec.ofNat_mul]

theorem out0_B_7_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : ¬cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16) (xo8 : Vec Ideal S16x3072 .f32) (xo9 : Vec Ideal S16x8192 .f32) (xo10 : Vec Ideal S16x1024 .bf16) (xo11 : Vec Ideal S16x1024 .bf16) (xs1 : Vec Ideal S8192x128 .bf16) (xs2 : Vec Ideal S1024x16 .bf16)
    (t : Fin 1024) (c' : Fin 512) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo8 xo9 xo10 xo11 xs1 xs2 (ix2 t c')
      = dxTile x1 x2 xs1 xs2 x5 (i 0) t c' := by
  unfold out0_B_7
  rw [View.read_writes_junk_eq_canon]
  unfold kernelRun0_B
  dsimp only
  sl_unfold_words
  refine (dx_pieces _ _ _ _ _ t c').trans ?_
  unfold dxTile
  rw [View.readCov_eq_canon', View.readCov_eq_canon', View.readAt_eq_ld, harg15.read_unread, View.readAt_eq_ld, View.readAt_eq_ld, harg6.read_unread]
  have hlo := fun q : Fin 256 => (congrArg (View.canon _) (idx_at (n0 := 1024) (n1 := 512) (inb := inb_S1024x512_S1024x256_0_0) (ix2 t q) 0 0 rfl (ix2 t ⟨q.val, by omega⟩) (Nat.zero_add _) (Nat.zero_add _))).trans
    ((canon_pb_lo Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (harg2.unread x1) (harg3.unread x2) (harg14.unread xs1) (i 0) (four_word _) x1 x2 xs1 (fun B => congrArg (fun X i => X (B.idx i)) (harg2.read_unread x1)) (fun B => congrArg (fun X i => X (B.idx i)) (harg3.read_unread x2)) (fun B => congrArg (fun X i => X (B.idx i)) (harg14.read_unread xs1)) (Scf.trips k0_t1_loop.lb k0_t1_loop.ub k0_t1_loop.st) (le_of_eq trips_eq) t q).trans (congrArg (accSum codeLo x1 x2 xs1 (i 0) t q) trips_eq))
  have hhi := fun q : Fin 256 => (congrArg (View.canon _) (idx_at (n0 := 1024) (n1 := 512) (inb := inb_S1024x512_S1024x256_0_256) (ix2 t q) 0 256 rfl (ix2 t ⟨256 + q.val, by omega⟩) (Nat.zero_add _) rfl)).trans
    ((canon_pb_hi Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (harg2.unread x1) (harg3.unread x2) (harg14.unread xs1) (i 0) (four_word _) x1 x2 xs1 (fun B => congrArg (fun X i => X (B.idx i)) (harg2.read_unread x1)) (fun B => congrArg (fun X i => X (B.idx i)) (harg3.read_unread x2)) (fun B => congrArg (fun X i => X (B.idx i)) (harg14.read_unread xs1)) (Scf.trips k0_t1_loop.lb k0_t1_loop.ub k0_t1_loop.st) (le_of_eq trips_eq) t q).trans (congrArg (accSum codeHi x1 x2 xs1 (i 0) t q) trips_eq))
  refine if_congr Iff.rfl (congrArg₂ (· + ·) (hlo _) ?_) (congrArg₂ (· + ·) (hhi _) ?_)
  · refine Finset.sum_congr rfl fun r _ => congrArg₂ (· * ·) (congrArg xs2 ?_) (congrArg x5 ?_)
    · exact idx_at (n0 := 1024) (n1 := 16) (inb := inb_S1024x16_S1024x16_0_0) (ix2 t r) 0 0 rfl _ (Nat.zero_add _) (Nat.zero_add _)
    · exact idx_at (n0 := 16) (n1 := 512) (inb := inb_S16x512_S16x256_0_0) (ix2 r ⟨c'.val / 2, by omega⟩) 0 0 rfl _ (Nat.zero_add _) (Nat.zero_add _)
  · refine Finset.sum_congr rfl fun r _ => congrArg₂ (· * ·) (congrArg xs2 ?_) (congrArg x5 ?_)
    · exact idx_at (n0 := 1024) (n1 := 16) (inb := inb_S1024x16_S1024x16_0_0) (ix2 t r) 0 0 rfl _ (Nat.zero_add _) (Nat.zero_add _)
    · exact idx_at (n0 := 16) (n1 := 512) (inb := inb_S16x512_S16x256_0_256) (ix2 r ⟨c'.val / 2, by omega⟩) 0 256 rfl _ (Nat.zero_add _) rfl

theorem sout0_A_1_eq (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1 := by
  unfold sout0_A_1
  exact View.read_writes_junk_eq_canon _ _

theorem sout0_A_2_eq (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1 := by
  unfold sout0_A_2
  exact View.read_writes_junk_eq_canon _ _

/-- The block of the input gradient, its scales and adapter products read from what was stored just before. -/
theorem tile_A (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole)
    (x1 : Vec Ideal S1024x8192 .bf16) (x2 : Vec Ideal S8192x256 .i8) (x5 : Vec Ideal S16x512 .bf16)
    (L14 : List (View.Piece (Elt Ideal) S8192x128 .bf16)) (L15 : List (View.Piece (Elt Ideal) S1024x16 .bf16))
    (t : Fin 1024) (c' : Fin 512) :
    ((if c'.val % 2 = 0 then arg13.view.readCov (Val := Elt Ideal) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (harg2.unread x1) (harg3.unread x2) (arg14.view.writes (Elt Ideal) arg14.view.junk L14) (arg13.view.writes (Elt Ideal) arg13.view.junk [⟨Rect.unit (s := S1024x512) ![0, 0] S1024x512.size inb_S1024x512_S1024x512_0_0, k0_pay94 (F := Ideal)⟩]) (Scf.trips k0_t1_loop.lb k0_t1_loop.ub k0_t1_loop.st) ++ [⟨Rect.unit (s := S1024x512) ![0, 0] S1024x512.size inb_S1024x512_S1024x512_0_0, k0_pay94 (F := Ideal)⟩]) (Rect.unit (s := S1024x512) ![0, 0] S1024x256.size inb_S1024x512_S1024x256_0_0).toLoadRect (ix2 t ⟨c'.val / 2, by omega⟩)
          + ∑ r : Fin 16, arg15.view.readCov (Val := Elt Ideal) L15 (Rect.unit (s := S1024x16) ![0, 0] S1024x16.size inb_S1024x16_S1024x16_0_0).toLoadRect (ix2 t r)
            * View.readAt (Elt Ideal) arg6.view (Rect.unit (s := S16x512) ![0, 0] S16x256.size inb_S16x512_S16x256_0_0).toLoadRect (harg6.unread x5) (ix2 r ⟨c'.val / 2, by omega⟩)
      else arg13.view.readCov (Val := Elt Ideal) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (harg2.unread x1) (harg3.unread x2) (arg14.view.writes (Elt Ideal) arg14.view.junk L14) (arg13.view.writes (Elt Ideal) arg13.view.junk [⟨Rect.unit (s := S1024x512) ![0, 0] S1024x512.size inb_S1024x512_S1024x512_0_0, k0_pay94 (F := Ideal)⟩]) (Scf.trips k0_t1_loop.lb k0_t1_loop.ub k0_t1_loop.st) ++ [⟨Rect.unit (s := S1024x512) ![0, 0] S1024x512.size inb_S1024x512_S1024x512_0_0, k0_pay94 (F := Ideal)⟩]) (Rect.unit (s := S1024x512) ![0, 256] S1024x256.size inb_S1024x512_S1024x256_0_256).toLoadRect (ix2 t ⟨c'.val / 2, by omega⟩)
          + ∑ r : Fin 16, arg15.view.readCov (Val := Elt Ideal) L15 (Rect.unit (s := S1024x16) ![0, 0] S1024x16.size inb_S1024x16_S1024x16_0_0).toLoadRect (ix2 t r)
            * View.readAt (Elt Ideal) arg6.view (Rect.unit (s := S16x512) ![0, 256] S16x256.size inb_S16x512_S16x256_0_256).toLoadRect (harg6.unread x5) (ix2 r ⟨c'.val / 2, by omega⟩) : EReal))
      = dxTile x1 x2 (View.canon L14) (View.canon L15) x5 (i 0) t c' := by
  unfold dxTile
  rw [View.readCov_eq_canon', View.readCov_eq_canon', View.readCov_eq_canon', View.readAt_eq_ld, View.readAt_eq_ld, harg6.read_unread]
  have hlo := fun q : Fin 256 => (congrArg (View.canon _) (idx_at (n0 := 1024) (n1 := 512) (inb := inb_S1024x512_S1024x256_0_0) (ix2 t q) 0 0 rfl (ix2 t ⟨q.val, by omega⟩) (Nat.zero_add _) (Nat.zero_add _))).trans
    ((canon_pb_lo Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (harg2.unread x1) (harg3.unread x2) (arg14.view.writes (Elt Ideal) arg14.view.junk L14) (i 0) (four_word _) x1 x2 (View.canon L14) (fun B => congrArg (fun X i => X (B.idx i)) (harg2.read_unread x1)) (fun B => congrArg (fun X i => X (B.idx i)) (harg3.read_unread x2)) (fun B => View.readAt_writes_junk_eq_canon _ _ B) (Scf.trips k0_t1_loop.lb k0_t1_loop.ub k0_t1_loop.st) (le_of_eq trips_eq) t q).trans (congrArg (accSum codeLo x1 x2 (View.canon L14) (i 0) t q) trips_eq))
  have hhi := fun q : Fin 256 => (congrArg (View.canon _) (idx_at (n0 := 1024) (n1 := 512) (inb := inb_S1024x512_S1024x256_0_256) (ix2 t q) 0 256 rfl (ix2 t ⟨256 + q.val, by omega⟩) (Nat.zero_add _) rfl)).trans
    ((canon_pb_hi Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (harg2.unread x1) (harg3.unread x2) (arg14.view.writes (Elt Ideal) arg14.view.junk L14) (i 0) (four_word _) x1 x2 (View.canon L14) (fun B => congrArg (fun X i => X (B.idx i)) (harg2.read_unread x1)) (fun B => congrArg (fun X i => X (B.idx i)) (harg3.read_unread x2)) (fun B => View.readAt_writes_junk_eq_canon _ _ B) (Scf.trips k0_t1_loop.lb k0_t1_loop.ub k0_t1_loop.st) (le_of_eq trips_eq) t q).trans (congrArg (accSum codeHi x1 x2 (View.canon L14) (i 0) t q) trips_eq))
  refine if_congr Iff.rfl (congrArg₂ (· + ·) (hlo _) ?_) (congrArg₂ (· + ·) (hhi _) ?_)
  · refine Finset.sum_congr rfl fun r _ => congrArg₂ (· * ·) (congrArg (View.canon L15) ?_) (congrArg x5 ?_)
    · exact idx_at (n0 := 1024) (n1 := 16) (inb := inb_S1024x16_S1024x16_0_0) (ix2 t r) 0 0 rfl _ (Nat.zero_add _) (Nat.zero_add _)
    · exact idx_at (n0 := 16) (n1 := 512) (inb := inb_S16x512_S16x256_0_0) (ix2 r ⟨c'.val / 2, by omega⟩) 0 0 rfl _ (Nat.zero_add _) (Nat.zero_add _)
  · refine Finset.sum_congr rfl fun r _ => congrArg₂ (· * ·) (congrArg (View.canon L15) ?_) (congrArg x5 ?_)
    · exact idx_at (n0 := 1024) (n1 := 16) (inb := inb_S1024x16_S1024x16_0_0) (ix2 t r) 0 0 rfl _ (Nat.zero_add _) (Nat.zero_add _)
    · exact idx_at (n0 := 16) (n1 := 512) (inb := inb_S16x512_S16x256_0_256) (ix2 r ⟨c'.val / 2, by omega⟩) 0 256 rfl _ (Nat.zero_add _) rfl

theorem run_A_7_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16)
    (t : Fin 1024) (c' : Fin 512) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 (ix2 t c')
      = dxTile x1 x2 (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1) (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1) x5 (i 0) t c' := by
  unfold kernelRun0_A
  dsimp only
  sl_unfold_words
  refine (dx_pieces _ _ _ _ _ t c').trans ?_
  exact tile_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x5 _ _ t c'

/-- The first point's block of the input gradient, from the scales and the adapter products it keeps. -/
theorem out0_A_7_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16)
    (t : Fin 1024) (c' : Fin 512) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 t c')
      = dxTile x1 x2 (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) x5 (i 0) t c' := by
  have e : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 := by
    unfold out0_A_7
    exact View.read_writes_junk_eq_canon _ _
  have e1 := sout0_A_1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
  have e2 := sout0_A_2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
  exact (congrFun e _).trans ((run_A_7_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 t c').trans
    (congrArg₂ (fun s g => dxTile x1 x2 s g x5 (i 0) t c') e1.symm e2.symm))

end Cert.KernelIdeal.Pay
-- ==== Proof.Value.Kept.lean ====
module

public import proofs.«01_k».proof.Proof.Ideal.Frame
public import Idealize.ShloMosaic.Lib.Pipeline.ValueKit
public import Idealize.ShloMosaic.Lib.Tactic
public import proofs.«01_k».proof.Proof.Value.Outputs

@[expose] public section

/-! # What the first grid point keeps for the others

The scales turned on their side, 64 strips of 128 rows; the adapter's products; and the four results
that are whole after the first point. -/

set_option maxRecDepth 16384

noncomputable section

namespace Cert.KernelIdeal.Pay

open Idealize.ShloMosaic hiding ix2
open Idealize.ShloMosaic.TcCoe Idealize.ShloMosaic.Tactic Idealize.SL.Sem
open Idealize.ShloMosaic.ValueIdx
open Cert.KernelIdeal Cert.KernelIdeal.Gen
open scoped BigOperators

theorem zero_off : (![0, 0] : Fin 2 → Nat) = fun _ => 0 := funext fun a => by fin_cases a <;> rfl

/-- A whole buffer read whole is its contents. -/
theorem rd_whole {s : Shape} {e : EltTy} (mr : Memref sig .tc .vmem s e) (hm : mr.IsWhole) (x : Vec Ideal s e) {off : Fin s.rank → Nat}
    (hz : off = fun _ => 0) (inb) :
    View.readAt (Elt Ideal) mr.view (Rect.unit (s := s) off s.size inb).toLoadRect (hm.unread x) = x := by
  rw [View.readAt_eq_ld, hm.read_unread, View.ld_unit_zero hz]

/-- The scales by output feature and group: 24 groups, then zeros. -/
def stS (x3 : S24x8192.Idx → EReal) (y : S8192x128.Idx) : EReal :=
  if h : (y 1).val < 24 then x3 (ix2 ⟨(y 1).val, h⟩ ⟨(y 0).val, (y 0).isLt⟩) else 0

/-- One strip of 128 output features. -/
theorem strip_piece (arg4 : Memref sig .tc .vmem S24x8192 .bf16) (harg4 : arg4.IsWhole) (x3 : Vec Ideal S24x8192 .bf16) {o : Nat}
    {i1 : ∀ a, (![o, 0] : Fin 2 → Nat) a + S128x128.size a ≤ S8192x128.size a} {i2 : ∀ a, (![0, o] : Fin 2 → Nat) a + S24x128.size a ≤ S24x8192.size a}
    (x : S128x128.Idx) :
    (⟨Rect.unit (s := S8192x128) ![o, 0] S128x128.size i1,
      k0_pay7 (F := Ideal) (View.readAt (Elt Ideal) arg4.view (Rect.unit (s := S24x8192) ![0, o] S24x128.size i2).toLoadRect (harg4.unread x3))⟩
        : View.Piece (Elt Ideal) S8192x128 .bf16).2 x
      = stS x3 ((Rect.unit (s := S8192x128) ![o, 0] S128x128.size i1).emb x) := by
  obtain ⟨a, l, rfl⟩ : ∃ a l, x = ix2 (n0 := 128) (n1 := 128) a l := ⟨x 0, x 1, ValueIdx.eq_ix2 x⟩
  have ho : o + 128 ≤ 8192 := i1 0
  refine (pay7_apply _ a l).trans ?_
  have e : (Rect.unit (s := S8192x128) ![o, 0] S128x128.size i1).emb (ix2 a l) = ix2 ⟨o + a.val, by omega⟩ l :=
    emb_at (n0 := 8192) (n1 := 128) (inb := i1) (ix2 a l) o 0 rfl _ rfl (Nat.zero_add _)
  rw [e]
  unfold stS
  refine dite_congr rfl (fun h => ?_) fun _ => rfl
  rw [View.readAt_eq_ld, harg4.read_unread]
  exact congrArg x3 (idx_at (n0 := 24) (n1 := 8192) (inb := i2) (ix2 ⟨l.val, h⟩ a) 0 o rfl _ (Nat.zero_add _) rfl)

/-- The kept scales. -/
theorem sout0_A_1_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = stS x3 := by
  refine (sout0_A_1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).trans (funext fun y => ?_)
  refine View.canon_apply_of_pieces _ _ ?_ y (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y)
  unfold kernelRun0_A
  dsimp only
  sl_unfold_words
  iterate 64 (refine List.forall_mem_cons.2 ⟨fun x => strip_piece arg4 harg4 x3 x, ?_⟩)
  exact List.forall_mem_nil _

/-- The kept adapter products. -/
theorem sout0_A_2_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16)
    (a : Fin 1024) (b : Fin 16) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 a b) = ∑ n : Fin 8192, x6 (ix2 b n) * x1 (ix2 a n) := by
  have e : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1 := by
    unfold sout0_A_2
    exact View.read_writes_junk_eq_canon _ _
  refine (congrFun e _).trans ?_
  unfold kernelRun0_A
  dsimp only
  sl_unfold_words
  refine (congrFun (View.canon_unit_zero zero_off _ _) _).trans ?_
  refine (congrFun (congrArg₂ (k0_pay4 (F := Ideal)) (rd_whole arg7 harg7 x6 zero_off _) (rd_whole arg2 harg2 x1 zero_off _)) _).trans ?_
  exact pay4_apply x6 x1 a b

/-- The adapter products, turned. -/
theorem out0_A_10_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16)
    (a : Fin 16) (b : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 a b) = ∑ n : Fin 8192, x6 (ix2 a n) * x1 (ix2 b n) := by
  have e : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1 := by
    unfold out0_A_10
    exact View.read_writes_junk_eq_canon _ _
  refine (congrFun e _).trans ?_
  unfold kernelRun0_A
  dsimp only
  sl_unfold_words
  refine (congrFun (View.canon_unit_zero zero_off _ _) _).trans ?_
  refine (congrFun (congrArg₂ (k0_pay2 (F := Ideal)) (rd_whole arg7 harg7 x6 zero_off _) (rd_whole arg2 harg2 x1 zero_off _)) _).trans ?_
  exact pay2_apply x6 x1 a b

/-- The input against the adapter, turned. -/
theorem out0_A_11_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16)
    (a : Fin 16) (b : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 a b) = ∑ n : Fin 3072, x4 (ix2 a n) * x0 (ix2 b n) := by
  have e : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1 := by
    unfold out0_A_11
    exact View.read_writes_junk_eq_canon _ _
  refine (congrFun e _).trans ?_
  unfold kernelRun0_A
  dsimp only
  sl_unfold_words
  refine (congrFun (View.canon_unit_zero zero_off _ _) _).trans ?_
  refine (congrFun (congrArg₂ (k0_pay3 (F := Ideal)) (rd_whole arg5 harg5 x4 zero_off _) (rd_whole arg1 harg1 x0 zero_off _)) _).trans ?_
  exact pay3_apply x4 x0 a b

/-- The gradient of the adapter's first factor, turned. -/
theorem out0_A_8_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16)
    (a : Fin 16) (b : Fin 3072) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 a b) = ∑ t : Fin 1024, (∑ n : Fin 8192, x6 (ix2 a n) * x1 (ix2 t n)) * x0 (ix2 t b) := by
  have e : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1 := by
    unfold out0_A_8
    exact View.read_writes_junk_eq_canon _ _
  refine (congrFun e _).trans ?_
  unfold kernelRun0_A
  dsimp only
  sl_unfold_words
  refine (congrFun (View.canon_unit_zero zero_off _ _) _).trans ?_
  refine (congrFun (congr (congrArg₂ (k0_pay5 (F := Ideal)) (rd_whole arg7 harg7 x6 zero_off _) (rd_whole arg2 harg2 x1 zero_off _)) (rd_whole arg1 harg1 x0 zero_off _)) _).trans ?_
  exact pay5_apply x6 x1 x0 a b

/-- The gradient of the adapter's second factor. -/
theorem out0_A_9_apply (c : Dev nD) (i : grid0.Coords) (arg1 : Memref sig .tc .vmem S1024x3072 .bf16) (harg1 : arg1.IsWhole) (arg2 : Memref sig .tc .vmem S1024x8192 .bf16) (harg2 : arg2.IsWhole) (arg3 : Memref sig .tc .vmem S8192x256 .i8) (harg3 : arg3.IsWhole) (arg4 : Memref sig .tc .vmem S24x8192 .bf16) (harg4 : arg4.IsWhole) (arg5 : Memref sig .tc .vmem S16x3072 .bf16) (harg5 : arg5.IsWhole) (arg6 : Memref sig .tc .vmem S16x512 .bf16) (harg6 : arg6.IsWhole) (arg7 : Memref sig .tc .vmem S16x8192 .bf16) (harg7 : arg7.IsWhole) (arg8 : Memref sig .tc .vmem S1024x512 .bf16) (harg8 : arg8.IsWhole) (arg9 : Memref sig .tc .vmem S16x3072 .f32) (harg9 : arg9.IsWhole) (arg10 : Memref sig .tc .vmem S16x8192 .f32) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S1024x512 .f32) (harg13 : arg13.IsWhole) (arg14 : Memref sig .tc .vmem S8192x128 .bf16) (harg14 : arg14.IsWhole) (arg15 : Memref sig .tc .vmem S1024x16 .bf16) (harg15 : arg15.IsWhole) (hc0 : cond0_0 i)
    (x0 : Vec Ideal S1024x3072 .bf16) (x1 : Vec Ideal S1024x8192 .bf16) (x2 : Vec Ideal S8192x256 .i8) (x3 : Vec Ideal S24x8192 .bf16) (x4 : Vec Ideal S16x3072 .bf16) (x5 : Vec Ideal S16x512 .bf16) (x6 : Vec Ideal S16x8192 .bf16)
    (a : Fin 16) (b : Fin 8192) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 a b) = ∑ t : Fin 1024, (∑ n : Fin 3072, x4 (ix2 a n) * x0 (ix2 t n)) * x1 (ix2 t b) := by
  have e : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1 := by
    unfold out0_A_9
    exact View.read_writes_junk_eq_canon _ _
  refine (congrFun e _).trans ?_
  unfold kernelRun0_A
  dsimp only
  sl_unfold_words
  refine (congrFun (View.canon_unit_zero zero_off _ _) _).trans ?_
  refine (congrFun (congr (congrArg₂ (k0_pay6 (F := Ideal)) (rd_whole arg5 harg5 x4 zero_off _) (rd_whole arg1 harg1 x0 zero_off _)) (rd_whole arg2 harg2 x1 zero_off _)) _).trans ?_
  exact pay6_apply x4 x0 x1 a b

end Cert.KernelIdeal.Pay
-- ==== Proof.Value.Arrays.lean ====
module

public import proofs.«01_k».proof.Proof.Ideal.Frame
public import Idealize.ShloMosaic.Lib.Pipeline.ValueKit
public import Idealize.ShloMosaic.Lib.Tactic
public import proofs.«01_k».proof.Proof.Value.Kept

@[expose] public section

/-! # The arrays the grid points find

Each input window's block at a point, read from the array it is cut from; and those arrays read from the
program's arguments, through the reshapes and transposes that come before the region. -/

set_option maxRecDepth 16384

noncomputable section

namespace Cert.KernelIdeal.Pay

open Idealize.ShloMosaic hiding ix2
open Idealize.ShloMosaic.TcCoe Idealize.ShloMosaic.Tactic Idealize.SL.Sem
open Idealize.ShloMosaic.ValueIdx
open Idealize.ShloMosaic.Pipeline (Dat Cfg Window)
open Cert.KernelIdeal Cert.KernelIdeal.Gen
open scoped BigOperators

variable (m : (ℓ : Loc nD τ sig) → Buf (Elt Ideal) ℓ)

/-! ## The arrays the windows read -/

theorem index_0 : ∀ t : Fin grid0.N, ∀ a, win0_0.index t a = 0 := by decide +kernel
/-- Window 0's block is its whole array. -/
theorem iblk_0 (c : Dev nD) (t : Fin cfg0.N) : (iblk m c 0 t : S1024x3072.Idx → EReal) = V m c main_v4 := by
  have hz : (fun a => win0_0.index t a * main_v4.ty.shape.size a) = fun _ => 0 := funext fun a => by rw [index_0 t a]; exact Nat.zero_mul _
  unfold iblk
  exact Memref.read_access_unit_zero (Elt Ideal) main_v4 hz (fun a => by rw [congrFun hz a]; simp) _
theorem index_1 : ∀ t : Fin grid0.N, ∀ a, win0_1.index t a = 0 := by decide +kernel
/-- Window 1's block is its whole array. -/
theorem iblk_1 (c : Dev nD) (t : Fin cfg0.N) : (iblk m c 1 t : S1024x8192.Idx → EReal) = V m c main_v5 := by
  have hz : (fun a => win0_1.index t a * main_v5.ty.shape.size a) = fun _ => 0 := funext fun a => by rw [index_1 t a]; exact Nat.zero_mul _
  unfold iblk
  exact Memref.read_access_unit_zero (Elt Ideal) main_v5 hz (fun a => by rw [congrFun hz a]; simp) _
theorem index_3 : ∀ t : Fin grid0.N, ∀ a, win0_3.index t a = 0 := by decide +kernel
/-- Window 3's block is its whole array. -/
theorem iblk_3 (c : Dev nD) (t : Fin cfg0.N) : (iblk m c 3 t : S24x8192.Idx → EReal) = V m c main_v6 := by
  have hz : (fun a => win0_3.index t a * main_v6.ty.shape.size a) = fun _ => 0 := funext fun a => by rw [index_3 t a]; exact Nat.zero_mul _
  unfold iblk
  exact Memref.read_access_unit_zero (Elt Ideal) main_v6 hz (fun a => by rw [congrFun hz a]; simp) _
theorem index_4 : ∀ t : Fin grid0.N, ∀ a, win0_4.index t a = 0 := by decide +kernel
/-- Window 4's block is its whole array. -/
theorem iblk_4 (c : Dev nD) (t : Fin cfg0.N) : (iblk m c 4 t : S16x3072.Idx → EReal) = V m c main_v0 := by
  have hz : (fun a => win0_4.index t a * main_v0.ty.shape.size a) = fun _ => 0 := funext fun a => by rw [index_4 t a]; exact Nat.zero_mul _
  unfold iblk
  exact Memref.read_access_unit_zero (Elt Ideal) main_v0 hz (fun a => by rw [congrFun hz a]; simp) _
theorem index_6 : ∀ t : Fin grid0.N, ∀ a, win0_6.index t a = 0 := by decide +kernel
/-- Window 6's block is its whole array. -/
theorem iblk_6 (c : Dev nD) (t : Fin cfg0.N) : (iblk m c 6 t : S16x8192.Idx → EReal) = V m c main_arg5 := by
  have hz : (fun a => win0_6.index t a * main_arg5.ty.shape.size a) = fun _ => 0 := funext fun a => by rw [index_6 t a]; exact Nat.zero_mul _
  unfold iblk
  exact Memref.read_access_unit_zero (Elt Ideal) main_arg5 hz (fun a => by rw [congrFun hz a]; simp) _
theorem index_2 : ∀ t : Fin grid0.N, win0_2.index t 0 = 0 ∧ win0_2.index t 1 = t.val := by decide +kernel
/-- Window 2's block at a point: the point's 256 columns. -/
theorem iblk_2 (c : Dev nD) (t : Fin cfg0.N) (a : Fin 8192) (b : Fin 256) :
    (iblk m c 2 t : S8192x256.Idx → BitVec 8) (ix2 a b)
      = (V m c main_arg2 : S8192x1536.Idx → BitVec 8) (ix2 a ⟨256 * t.val + b.val, by have := t.isLt; have hN : cfg0.N = 6 := N_0; omega⟩) := by
  unfold iblk
  rw [View.read_apply]
  refine congrArg (V m c main_arg2 : S8192x1536.Idx → BitVec 8) (Shape.idx_ext₂ ?_ ?_)
  · show win0_2.index t 0 * 8192 + 1 * a.val = a.val
    rw [(index_2 t).1]; omega
  · show win0_2.index t 1 * 256 + 1 * b.val = 256 * t.val + b.val
    rw [(index_2 t).2]; omega
theorem index_5 : ∀ t : Fin grid0.N, win0_5.index t 0 = 0 ∧ win0_5.index t 1 = t.val := by decide +kernel
/-- Window 5's block at a point: the point's 512 columns. -/
theorem iblk_5 (c : Dev nD) (t : Fin cfg0.N) (a : Fin 16) (b : Fin 512) :
    (iblk m c 5 t : S16x512.Idx → EReal) (ix2 a b)
      = (V m c main_v3 : S16x3072.Idx → EReal) (ix2 a ⟨512 * t.val + b.val, by have := t.isLt; have hN : cfg0.N = 6 := N_0; omega⟩) := by
  unfold iblk
  rw [View.read_apply]
  refine congrArg (V m c main_v3 : S16x3072.Idx → EReal) (Shape.idx_ext₂ ?_ ?_)
  · show win0_5.index t 0 * 16 + 1 * a.val = a.val
    rw [(index_5 t).1]; omega
  · show win0_5.index t 1 * 512 + 1 * b.val = 512 * t.val + b.val
    rw [(index_5 t).2]; omega
theorem coord_0 : ∀ t : Fin grid0.N, ((grid0.coords t) 0).val = t.val := by decide +kernel

/-! ## The arrays before the six points, from the arguments -/

theorem rm2 {n0 n1 : Nat} (a : Fin n0) (b : Fin n1) : ((⟨2, ![n0, n1]⟩ : Shape).rowMajor (ix2 a b)).val = a.val * n1 + b.val :=
  rowMajor_val2 (d := ![n0, n1]) (ix2 a b) n1 rfl
theorem rm3 {n0 n1 n2 : Nat} (a : Fin n0) (b : Fin n1) (c : Fin n2) :
    ((⟨3, ![n0, n1, n2]⟩ : Shape).rowMajor (ValueIdx.ix3 a b c)).val = a.val * (n1 * n2) + b.val * n2 + c.val :=
  rowMajor_val3 (d := ![n0, n1, n2]) (ValueIdx.ix3 a b c) (n1 * n2) n2 rfl rfl
theorem rm4 {n0 n1 n2 n3 : Nat} (a : Fin n0) (b : Fin n1) (c : Fin n2) (e : Fin n3) :
    ((⟨4, ![n0, n1, n2, n3]⟩ : Shape).rowMajor (ValueIdx.ix4 a b c e)).val = a.val * (n1 * (n2 * n3)) + b.val * (n2 * n3) + c.val * n3 + e.val :=
  rowMajor_val4 (d := ![n0, n1, n2, n3]) (ValueIdx.ix4 a b c e) (n1 * (n2 * n3)) (n2 * n3) n3 rfl rfl rfl
theorem V_main_v4 (c : Dev nD) : V m c main_v4 = shapeCast S1024x3072 (m ((c : Thread nD τ).loc main_arg0)) shapeCasts_S2x512x3072_S1024x3072 := by
  show StableHlo.after hostOps0 (fun b => m (c, b)) (Proc.devRef .tc main_v4) = _
  after_results
  rfl
/-- Row `t` is position `t % 512` of sequence `t / 512`. -/
theorem V_main_v4_apply (c : Dev nD) (t : Fin 1024) (k : Fin 3072) :
    (V m c main_v4 : S1024x3072.Idx → EReal) (ix2 t k) = (m ((c : Thread nD τ).loc main_arg0) : S2x512x3072.Idx → EReal) (ValueIdx.ix3 ⟨t.val / 512, by omega⟩ ⟨t.val % 512, by omega⟩ k) := by
  rw [V_main_v4]
  refine shapeCast_apply _ _ _ _ ((rm3 (n0 := 2) (n1 := 512) (n2 := 3072) ⟨t.val / 512, by omega⟩ ⟨t.val % 512, by omega⟩ k).trans (Eq.trans ?_ (rm2 (n0 := 1024) (n1 := 3072) t k).symm))
  show t.val / 512 * (512 * 3072) + t.val % 512 * 3072 + k.val = t.val * 3072 + k.val
  have := Nat.div_add_mod t.val 512
  omega
theorem V_main_v5 (c : Dev nD) : V m c main_v5 = shapeCast S1024x8192 (m ((c : Thread nD τ).loc main_arg1)) shapeCasts_S2x512x8192_S1024x8192 := by
  show StableHlo.after hostOps0 (fun b => m (c, b)) (Proc.devRef .tc main_v5) = _
  after_results
  rfl
/-- Row `t` is position `t % 512` of sequence `t / 512`. -/
theorem V_main_v5_apply (c : Dev nD) (t : Fin 1024) (k : Fin 8192) :
    (V m c main_v5 : S1024x8192.Idx → EReal) (ix2 t k) = (m ((c : Thread nD τ).loc main_arg1) : S2x512x8192.Idx → EReal) (ValueIdx.ix3 ⟨t.val / 512, by omega⟩ ⟨t.val % 512, by omega⟩ k) := by
  rw [V_main_v5]
  refine shapeCast_apply _ _ _ _ ((rm3 (n0 := 2) (n1 := 512) (n2 := 8192) ⟨t.val / 512, by omega⟩ ⟨t.val % 512, by omega⟩ k).trans (Eq.trans ?_ (rm2 (n0 := 1024) (n1 := 8192) t k).symm))
  show t.val / 512 * (512 * 8192) + t.val % 512 * 8192 + k.val = t.val * 8192 + k.val
  have := Nat.div_add_mod t.val 512
  omega
theorem V_main_v6 (c : Dev nD) : V m c main_v6 = transpose S24x8192 [1, 0] (m ((c : Thread nD τ).loc main_arg3)) transposes_S8192x24_S24x8192_1_0 := by
  show StableHlo.after hostOps0 (fun b => m (c, b)) (Proc.devRef .tc main_v6) = _
  after_results
theorem V_main_v6_apply (c : Dev nD) (a : Fin 24) (k : Fin 8192) :
    (V m c main_v6 : S24x8192.Idx → EReal) (ix2 a k) = (m ((c : Thread nD τ).loc main_arg3) : S8192x24.Idx → EReal) (ix2 k a) := by
  rw [V_main_v6]
  refine transpose_apply _ _ _ _ (ix2 k a) ?_
  intro b
  match b with
  | ⟨0, _⟩ => rfl
  | ⟨1, _⟩ => rfl
theorem V_main_v0 (c : Dev nD) : V m c main_v0 = transpose S16x3072 [1, 0] (m ((c : Thread nD τ).loc main_arg4)) transposes_S3072x16_S16x3072_1_0 := by
  show StableHlo.after hostOps0 (fun b => m (c, b)) (Proc.devRef .tc main_v0) = _
  after_results
theorem V_main_v0_apply (c : Dev nD) (a : Fin 16) (k : Fin 3072) :
    (V m c main_v0 : S16x3072.Idx → EReal) (ix2 a k) = (m ((c : Thread nD τ).loc main_arg4) : S3072x16.Idx → EReal) (ix2 k a) := by
  rw [V_main_v0]
  refine transpose_apply _ _ _ _ (ix2 k a) ?_
  intro b
  match b with
  | ⟨0, _⟩ => rfl
  | ⟨1, _⟩ => rfl
theorem V_main_v3 (c : Dev nD) : V m c main_v3 = shapeCast S16x3072 (transpose S16x6x2x256 [0, 1, 3, 2] (shapeCast S16x6x256x2 (transpose S16x3072 [1, 0] (m ((c : Thread nD τ).loc main_arg4)) transposes_S3072x16_S16x3072_1_0) shapeCasts_S16x3072_S16x6x256x2) transposes_S16x6x256x2_S16x6x2x256_0_1_3_2) shapeCasts_S16x6x2x256_S16x3072 := by
  show StableHlo.after hostOps0 (fun b => m (c, b)) (Proc.devRef .tc main_v3) = _
  after_results
  rfl
/-- In every 512 columns the even ones stand first, then the odd ones. -/
theorem V_main_v3_apply (c : Dev nD) (r : Fin 16) (j : Fin 6) (p : Fin 2) (l : Fin 256) :
    (V m c main_v3 : S16x3072.Idx → EReal) (ix2 r ⟨512 * j.val + 256 * p.val + l.val, by omega⟩)
      = (m ((c : Thread nD τ).loc main_arg4) : S3072x16.Idx → EReal) (ix2 ⟨512 * j.val + 2 * l.val + p.val, by omega⟩ r) := by
  rw [V_main_v3]
  refine (shapeCast_apply _ _ _ (ValueIdx.ix4 r j p l) ((rm4 (n0 := 16) (n1 := 6) (n2 := 2) (n3 := 256) r j p l).trans (Eq.trans ?_ (rm2 (n0 := 16) (n1 := 3072) r ⟨512 * j.val + 256 * p.val + l.val, by omega⟩).symm))).trans ?_
  · show r.val * (6 * (2 * 256)) + j.val * (2 * 256) + p.val * 256 + l.val = r.val * 3072 + (512 * j.val + 256 * p.val + l.val)
    omega
  refine (transpose_apply _ _ _ _ (ValueIdx.ix4 r j l p) ?_).trans ?_
  · intro b
    match b with
    | ⟨0, _⟩ => rfl
    | ⟨1, _⟩ => rfl
    | ⟨2, _⟩ => rfl
    | ⟨3, _⟩ => rfl
  refine (shapeCast_apply _ _ _ (ix2 r ⟨512 * j.val + 2 * l.val + p.val, by omega⟩) ((rm2 (n0 := 16) (n1 := 3072) r ⟨512 * j.val + 2 * l.val + p.val, by omega⟩).trans (Eq.trans ?_ (rm4 (n0 := 16) (n1 := 6) (n2 := 256) (n3 := 2) r j l p).symm))).trans ?_
  · show r.val * 3072 + (512 * j.val + 2 * l.val + p.val) = r.val * (6 * (256 * 2)) + j.val * (256 * 2) + l.val * 2 + p.val
    omega
  refine transpose_apply _ _ _ _ (ix2 ⟨512 * j.val + 2 * l.val + p.val, by omega⟩ r) ?_
  intro b
  match b with
  | ⟨0, _⟩ => rfl
  | ⟨1, _⟩ => rfl

end Cert.KernelIdeal.Pay
-- ==== Proof.Value.Finals.lean ====
module

public import proofs.«01_k».proof.Proof.Ideal.Frame
public import Idealize.ShloMosaic.Lib.Pipeline.ValueKit
public import Idealize.ShloMosaic.Lib.Tactic
public import proofs.«01_k».proof.Proof.Value.Arrays

@[expose] public section

/-! # What the six grid points leave

Every point writes its own 512 columns of the input gradient; the other four results are whole after the
first point and written back after the last. -/

set_option maxRecDepth 16384

noncomputable section

namespace Cert.KernelIdeal.Pay

open Idealize.ShloMosaic hiding ix2
open Idealize.ShloMosaic.TcCoe Idealize.ShloMosaic.Tactic Idealize.SL.Sem
open Idealize.ShloMosaic.ValueIdx
open Idealize.ShloMosaic.Pipeline (Dat Cfg Window)
open Cert.KernelIdeal Cert.KernelIdeal.Gen
open scoped BigOperators

variable (m : (ℓ : Loc nD τ sig) → Buf (Elt Ideal) ℓ)

/-! ## The point by point contents -/

theorem N6 : cfg0.N = 6 := N_0

/-- What the points after the first carry along is what the first left. -/
theorem outs_tail (c : Dev nD) : ∀ (n : ℕ) (h : n < cfg0.N), (outsAt0 m c n h).2 = (outsAt0 m c 0 (by rw [N6]; decide)).2
  | 0, _ => rfl
  | n + 1, h => by
    have hN : cfg0.N = 6 := N6
    have h0 : ¬(n + 1) % 6 = 0 := by omega
    have e := congrArg (fun o => o.2) (outsAt0_B m c ⟨n + 1, h⟩ h0)
    dsimp only [out0_B_8, out0_B_9, out0_B_10, out0_B_11, sout0_B_1, sout0_B_2] at e
    exact e.trans (outs_tail c n (by omega))

/-- Rows of the first times rows of the second: `gt`. -/
def gtOf (lb : S16x8192.Idx → EReal) (dy : S1024x8192.Idx → EReal) (a : Fin 16) (b : Fin 1024) : EReal :=
  ∑ n : Fin 8192, lb (ix2 a n) * dy (ix2 b n)
/-- The inputs through the first factor: `xat`. -/
def xatOf (at' : S16x3072.Idx → EReal) (x : S1024x3072.Idx → EReal) (a : Fin 16) (b : Fin 1024) : EReal :=
  ∑ n : Fin 3072, at' (ix2 a n) * x (ix2 b n)
/-- `gt` and `xat` of the arrays the region finds. -/
def gtV (c : Dev nD) (a : Fin 16) (b : Fin 1024) : EReal := gtOf (V m c main_arg5) (V m c main_v5) a b
def xatV (c : Dev nD) (a : Fin 16) (b : Fin 1024) : EReal := xatOf (V m c main_v0) (V m c main_v4) a b
/-- The rows of a factor summed against the columns of an array. -/
def datOf (g : Fin 16 → Fin 1024 → EReal) (x : S1024x3072.Idx → EReal) (a : Fin 16) (b : Fin 3072) : EReal := ∑ t : Fin 1024, g a t * x (ix2 t b)
def dbOf (g : Fin 16 → Fin 1024 → EReal) (x : S1024x8192.Idx → EReal) (a : Fin 16) (b : Fin 8192) : EReal := ∑ t : Fin 1024, g a t * x (ix2 t b)

theorem t0_lt : 0 < cfg0.N := by rw [N6]; decide

theorem first_10 (c : Dev nD) (a : Fin 16) (b : Fin 1024) : (outsAt0 m c 0 t0_lt).2.2.2.1 (ix2 a b) = gtV m c a b := by
  have e := congrArg (fun o => o.2.2.2.1 (ix2 a b)) (outsAt0_A m c ⟨0, t0_lt⟩ rfl)
  dsimp only at e
  refine e.trans ((out0_A_10_apply ..).trans ?_)
  simp only [iblk_6, iblk_1]
  rfl
theorem first_11 (c : Dev nD) (a : Fin 16) (b : Fin 1024) : (outsAt0 m c 0 t0_lt).2.2.2.2.1 (ix2 a b) = xatV m c a b := by
  have e := congrArg (fun o => o.2.2.2.2.1 (ix2 a b)) (outsAt0_A m c ⟨0, t0_lt⟩ rfl)
  dsimp only at e
  refine e.trans ((out0_A_11_apply ..).trans ?_)
  simp only [iblk_4, iblk_0]
  rfl
theorem first_8 (c : Dev nD) (a : Fin 16) (b : Fin 3072) : (outsAt0 m c 0 t0_lt).2.1 (ix2 a b) = datOf (gtV m c) (V m c main_v4) a b := by
  have e := congrArg (fun o => o.2.1 (ix2 a b)) (outsAt0_A m c ⟨0, t0_lt⟩ rfl)
  dsimp only at e
  refine e.trans ((out0_A_8_apply ..).trans ?_)
  simp only [iblk_6, iblk_1, iblk_0]
  rfl
theorem first_9 (c : Dev nD) (a : Fin 16) (b : Fin 8192) : (outsAt0 m c 0 t0_lt).2.2.1 (ix2 a b) = dbOf (xatV m c) (V m c main_v5) a b := by
  have e := congrArg (fun o => o.2.2.1 (ix2 a b)) (outsAt0_A m c ⟨0, t0_lt⟩ rfl)
  dsimp only at e
  refine e.trans ((out0_A_9_apply ..).trans ?_)
  simp only [iblk_4, iblk_1, iblk_0]
  rfl
theorem first_s2 (c : Dev nD) (a : Fin 1024) (b : Fin 16) : (outsAt0 m c 0 t0_lt).2.2.2.2.2.2 (ix2 a b) = gtV m c b a := by
  have e := congrArg (fun o => o.2.2.2.2.2.2 (ix2 a b)) (outsAt0_A m c ⟨0, t0_lt⟩ rfl)
  dsimp only at e
  refine e.trans ((sout0_A_2_apply ..).trans ?_)
  simp only [iblk_6, iblk_1]
  rfl
theorem first_s1 (c : Dev nD) : (outsAt0 m c 0 t0_lt).2.2.2.2.2.1 = stS (V m c main_v6) := by
  have e := congrArg (fun o => o.2.2.2.2.2.1) (outsAt0_A m c ⟨0, t0_lt⟩ rfl)
  dsimp only at e
  refine e.trans ((sout0_A_1_apply ..).trans ?_)
  rw [iblk_3]

/-- The two carried scratch buffers at every point. -/
theorem kept_1 (c : Dev nD) (n : ℕ) (h : n < cfg0.N) : (outsAt0 m c n h).2.2.2.2.2.1 = stS (V m c main_v6) :=
  (congrArg (fun o => o.2.2.2.2.1) (outs_tail m c n h)).trans (first_s1 m c)
theorem kept_2 (c : Dev nD) (n : ℕ) (h : n < cfg0.N) (a : Fin 1024) (b : Fin 16) : (outsAt0 m c n h).2.2.2.2.2.2 (ix2 a b) = gtV m c b a :=
  (congrArg (fun o => o.2.2.2.2.2 (ix2 a b)) (outs_tail m c n h)).trans (first_s2 m c a b)

/-- A tile only reads the rows of `gt`. -/
theorem dxTile_congr (dy : S1024x8192.Idx → EReal) (w : S8192x256.Idx → BitVec 8) (s : S8192x128.Idx → EReal) (g g' : S1024x16.Idx → EReal)
    (d : S16x512.Idx → EReal) (j : Fin 6) (t : Fin 1024) (c : Fin 512) (h : ∀ r, g (ix2 t r) = g' (ix2 t r)) :
    dxTile dy w s g d j t c = dxTile dy w s g' d j t c := by
  unfold dxTile
  simp only [h]

/-- The tile of the input gradient a point leaves. -/
theorem tile_at (c : Dev nD) (t : Fin cfg0.N) (a : Fin 1024) (b : Fin 512) :
    (outsAt0 m c t.val t.isLt).1 (ix2 a b)
      = dxTile (V m c main_v5) (iblk m c 2 t) (stS (V m c main_v6)) (fun y => gtV m c (y 1) (y 0)) (iblk m c 5 t) ((grid0.coords t) 0) a b := by
  by_cases h0 : t.val % 6 = 0
  · have e := congrArg (fun o => o.1 (ix2 a b)) (outsAt0_A m c t h0)
    dsimp only at e
    refine e.trans ((out0_A_7_apply ..).trans ?_)
    rw [iblk_1, sout0_A_1_apply, iblk_3]
    refine dxTile_congr _ _ _ _ _ _ _ _ _ fun r => ?_
    refine (sout0_A_2_apply ..).trans ?_
    simp only [iblk_6, iblk_1]
    rfl
  · have e := congrArg (fun o => o.1 (ix2 a b)) (outsAt0_B m c t h0)
    dsimp only at e
    refine e.trans ((out0_B_7_apply ..).trans ?_)
    rw [iblk_1, kept_1]
    exact dxTile_congr _ _ _ _ _ _ _ _ _ fun r => kept_2 m c _ _ a r

/-! ## The arrays after the last point -/

theorem final_8 (c : Dev nD) : (dats m 0 c).arrAt 8 cfg0.N = (outsAt0 m c 0 t0_lt).2.1 := by
  refine (dats m 0 c).arrAt_eq_of_after_last 8 t0_5 (by decide +kernel) _ fun j => ?_
  blk_simp
  rw [after0_8]
  exact congrArg (fun o => o.1 j) (outs_tail m c _ _)
theorem final_9 (c : Dev nD) : (dats m 0 c).arrAt 9 cfg0.N = (outsAt0 m c 0 t0_lt).2.2.1 := by
  refine (dats m 0 c).arrAt_eq_of_after_last 9 t0_5 (by decide +kernel) _ fun j => ?_
  blk_simp
  rw [after0_9]
  exact congrArg (fun o => o.2.1 j) (outs_tail m c _ _)
theorem final_10 (c : Dev nD) : (dats m 0 c).arrAt 10 cfg0.N = (outsAt0 m c 0 t0_lt).2.2.2.1 := by
  refine (dats m 0 c).arrAt_eq_of_after_last 10 t0_5 (by decide +kernel) _ fun j => ?_
  blk_simp
  rw [after0_10]
  exact congrArg (fun o => o.2.2.1 j) (outs_tail m c _ _)
theorem final_11 (c : Dev nD) : (dats m 0 c).arrAt 11 cfg0.N = (outsAt0 m c 0 t0_lt).2.2.2.2.1 := by
  refine (dats m 0 c).arrAt_eq_of_after_last 11 t0_5 (by decide +kernel) _ fun j => ?_
  blk_simp
  rw [after0_11]
  exact congrArg (fun o => o.2.2.2.1 j) (outs_tail m c _ _)

/-- The input gradient at a row and a column, from the arrays the region finds. -/
def dxV (c : Dev nD) (j : Fin 6) (t : Fin 1024) (k : Fin 512) : EReal :=
  dxTile (V m c main_v5) (fun y => (V m c main_arg2 : S8192x1536.Idx → BitVec 8) (ix2 (y 0) ⟨256 * j.val + (y 1).val, by have h1 : (y 1).val < 256 := (y 1).isLt; omega⟩))
    (stS (V m c main_v6)) (fun y => gtV m c (y 1) (y 0))
    (fun y => (V m c main_v3 : S16x3072.Idx → EReal) (ix2 (y 0) ⟨512 * j.val + (y 1).val, by have h1 : (y 1).val < 512 := (y 1).isLt; omega⟩)) j t k

theorem index_7 : ∀ t : Fin grid0.N, win0_7.index t = ![0, t.val] := by decide +kernel

theorem dxV_congr (c : Dev nD) {j j' : Fin 6} {t t' : Fin 1024} {k k' : Fin 512} (hj : j = j') (ht : t = t') (hk : k = k') :
    dxV m c j t k = dxV m c j' t' k' := by
  subst hj ht hk; rfl

/-- A point's tile is the point's columns of the gradient. -/
theorem tile_dx (c : Dev nD) (t : Fin cfg0.N) (a : Fin 1024) (b : Fin 512) :
    dxTile (V m c main_v5) (iblk m c 2 t) (stS (V m c main_v6)) (fun y => gtV m c (y 1) (y 0)) (iblk m c 5 t) ((grid0.coords t) 0) a b
      = dxV m c ⟨t.val, by have := t.isLt; have hN : cfg0.N = 6 := N6; omega⟩ a b := by
  have hj : (grid0.coords t) 0 = (⟨t.val, by have := t.isLt; have hN : cfg0.N = 6 := N6; omega⟩ : Fin 6) := Fin.ext (coord_0 t)
  have h2 : (iblk m c 2 t : S8192x256.Idx → BitVec 8) = fun y => (V m c main_arg2 : S8192x1536.Idx → BitVec 8) (ix2 (y 0) ⟨256 * t.val + (y 1).val, by have h1 : (y 1).val < 256 := (y 1).isLt; have := t.isLt; have hN : cfg0.N = 6 := N6; omega⟩) :=
    funext fun y => (congrArg (iblk m c 2 t : S8192x256.Idx → BitVec 8) (ValueIdx.eq_ix2 y)).trans (iblk_2 m c t (y 0) (y 1))
  have h5 : (iblk m c 5 t : S16x512.Idx → EReal) = fun y => (V m c main_v3 : S16x3072.Idx → EReal) (ix2 (y 0) ⟨512 * t.val + (y 1).val, by have h1 : (y 1).val < 512 := (y 1).isLt; have := t.isLt; have hN : cfg0.N = 6 := N6; omega⟩) :=
    funext fun y => (congrArg (iblk m c 5 t : S16x512.Idx → EReal) (ValueIdx.eq_ix2 y)).trans (iblk_5 m c t (y 0) (y 1))
  unfold dxV
  rw [h2, h5]
  exact congrArg (fun j => dxTile _ _ _ _ _ j a b) hj

theorem final_7 (c : Dev nD) : (dats m 0 c).arrAt 7 cfg0.N
    = fun i : S1024x3072.Idx => dxV m c ⟨(i 1).val / 512, by have h1 : (i 1).val < 3072 := (i 1).isLt; omega⟩ (i 0) ⟨(i 1).val % 512, by omega⟩ := by
  refine (dats m 0 c).arrAt_eq_of_covers 7 _ (by decide +kernel) fun t hf y => ?_
  blk_simp
  rw [after0_7]
  have hN : cfg0.N = 6 := N6
  have ht := t.isLt
  have hi : win0_7.index t 1 = t.val := by rw [index_7 t]; rfl
  have hi0 : win0_7.index t 0 = 0 := by rw [index_7 t]; rfl
  have hy1 : (y 1).val < 512 := (y 1).isLt
  refine (congrArg (outsAt0 m c t.val t.isLt).1 (ValueIdx.eq_ix2 y)).trans ((tile_at m c t (y 0) (y 1)).trans ((tile_dx m c t (y 0) (y 1)).trans ?_))
  refine dxV_congr m c (Fin.ext ?_) (Fin.ext ?_) (Fin.ext ?_)
  · show t.val = (win0_7.index t 1 * 512 + (y 1).val) / 512
    omega
  · show (y 0).val = win0_7.index t 0 * 1024 + 1 * (y 0).val
    omega
  · show (y 1).val = (win0_7.index t 1 * 512 + (y 1).val) % 512
    omega

end Cert.KernelIdeal.Pay
-- ==== Proof.Value.RefAt.lean ====
module

public import proofs.«01_k».proof.Proof.Gen.ReferenceIdeal.Read
public import proofs.«01_k».proof.Proof.Value.Sums

@[expose] public section

/-! # The reference's results, read at an index

Each result of the reference as a plain sum over its arguments. -/

set_option maxRecDepth 16384

noncomputable section

namespace Cert.ReferenceIdeal.At

open Idealize.ShloMosaic Idealize.ShloMosaic.ValueIdx
open Cert.ReferenceIdeal Cert.ReferenceIdeal.Gen Cert.ReferenceIdeal.Read
open Cert.KernelIdeal.Pay (codeLo codeHi loB hiB sixteen_div)
open scoped BigOperators

/-- Row `t` of an array of two sequences of 512 rows. -/
def xR (x0 : S2x512x3072.Idx → EReal) (t : Fin 1024) (k : Fin 3072) : EReal := x0 (ix3 ⟨t.val / 512, by omega⟩ ⟨t.val % 512, by omega⟩ k)
def dyR (x1 : S2x512x8192.Idx → EReal) (t : Fin 1024) (k : Fin 8192) : EReal := x1 (ix3 ⟨t.val / 512, by omega⟩ ⟨t.val % 512, by omega⟩ k)
/-- The output gradient against the second factor's rows. -/
def gR (x1 : S2x512x8192.Idx → EReal) (x5 : S16x8192.Idx → EReal) (t : Fin 1024) (r : Fin 16) : EReal := ∑ n : Fin 8192, dyR x1 t n * x5 (ix2 r n)
/-- The input against the first factor's columns. -/
def hR (x0 : S2x512x3072.Idx → EReal) (x4 : S3072x16.Idx → EReal) (t : Fin 1024) (r : Fin 16) : EReal := ∑ k : Fin 3072, xR x0 t k * x4 (ix2 k r)
/-- The input gradient at a row and a column. -/
def dxR (x1 : S2x512x8192.Idx → EReal) (x2 : S8192x1536.Idx → BitVec 8) (x3 : S8192x24.Idx → EReal) (x4 : S3072x16.Idx → EReal) (x5 : S16x8192.Idx → EReal)
    (t : Fin 1024) (k : Fin 3072) : EReal :=
  (if k.val % 2 = 0 then ∑ n : Fin 8192, dyR x1 t n * (codeLo (x2 (ix2 n ⟨k.val / 2, by omega⟩)) * x3 (ix2 n ⟨k.val / 128, by omega⟩))
   else ∑ n : Fin 8192, dyR x1 t n * (codeHi (x2 (ix2 n ⟨k.val / 2, by omega⟩)) * x3 (ix2 n ⟨k.val / 128, by omega⟩)))
  + ∑ r : Fin 16, gR x1 x5 t r * x4 (ix2 k r)

theorem v1_at (x0 : S2x512x3072.Idx → EReal) (t : Fin 1024) (k : Fin 3072) : val_main_v1 (F := Ideal) x0 (ix2 t k) = xR x0 t k := by
  refine (val_main_v1_apply (F := Ideal) x0 (ix2 t k)).trans (congrArg x0 (funext fun a => Fin.ext ?_))
  match a with
  | ⟨0, _⟩ => show (t.val * 3072 + k.val) / 1572864 = t.val / 512; omega
  | ⟨1, _⟩ => show (t.val * 3072 + k.val) / 3072 % 512 = t.val % 512; omega
  | ⟨2, _⟩ => show (t.val * 3072 + k.val) % 3072 = k.val; omega
theorem v2_at (x1 : S2x512x8192.Idx → EReal) (t : Fin 1024) (k : Fin 8192) : val_main_v2 (F := Ideal) x1 (ix2 t k) = dyR x1 t k := by
  refine (val_main_v2_apply (F := Ideal) x1 (ix2 t k)).trans (congrArg x1 (funext fun a => Fin.ext ?_))
  match a with
  | ⟨0, _⟩ => show (t.val * 8192 + k.val) / 4194304 = t.val / 512; omega
  | ⟨1, _⟩ => show (t.val * 8192 + k.val) / 8192 % 512 = t.val % 512; omega
  | ⟨2, _⟩ => show (t.val * 8192 + k.val) % 8192 = k.val; omega

theorem v37_at (x1 : S2x512x8192.Idx → EReal) (x5 : S16x8192.Idx → EReal) (t : Fin 1024) (r : Fin 16) :
    val_main_v37 (F := Ideal) x1 x5 (ix2 t r) = gR x1 x5 t r := by
  refine (val_main_v36_apply x1 x5 (ix2 t r)).trans (Finset.sum_congr rfl fun n _ => congrArg₂ (· * ·) ?_ ?_)
  · exact (congrArg (val_main_v2 (F := Ideal) x1) (Shape.idx_ext₂ rfl rfl)).trans (v2_at x1 t n)
  · exact congrArg x5 (Shape.idx_ext₂ rfl rfl)
theorem v39_at (x0 : S2x512x3072.Idx → EReal) (x4 : S3072x16.Idx → EReal) (t : Fin 1024) (r : Fin 16) :
    val_main_v39 (F := Ideal) x0 x4 (ix2 t r) = hR x0 x4 t r := by
  refine (val_main_v38_apply x0 x4 (ix2 t r)).trans (Finset.sum_congr rfl fun n _ => congrArg₂ (· * ·) ?_ ?_)
  · exact (congrArg (val_main_v1 (F := Ideal) x0) (Shape.idx_ext₂ rfl rfl)).trans (v1_at x0 t n)
  · exact congrArg x4 (Shape.idx_ext₂ rfl rfl)

theorem v0_at (i : S_.Idx) : (val_main_v0 (F := Ideal) i : EReal) = 1 := sixteen_div

theorem v48_at (x0 : S2x512x3072.Idx → EReal) (x1 : S2x512x8192.Idx → EReal) (x5 : S16x8192.Idx → EReal) (k : Fin 3072) (r : Fin 16) :
    val_main_v48 (F := Ideal) x0 x1 x5 (ix2 k r) = ∑ t : Fin 1024, xR x0 t k * gR x1 x5 t r := by
  refine (congrArg₂ (fun a b : EReal => a * b) ((val_main_v47_apply (F := Ideal) (ix2 k r)).trans (v0_at _)) (val_main_v46_apply x0 x1 x5 (ix2 k r))).trans ((one_mul _).trans ?_)
  refine Finset.sum_congr rfl fun t _ => congrArg₂ (fun a b : EReal => a * b) ?_ ?_
  · exact (congrArg (val_main_v1 (F := Ideal) x0) (Shape.idx_ext₂ rfl rfl)).trans (v1_at x0 t k)
  · exact (congrArg (val_main_v37 (F := Ideal) x1 x5) (Shape.idx_ext₂ rfl rfl : ridx_main_v46 (ix2 k r) t = ix2 t r)).trans (v37_at x1 x5 t r)
theorem v51_at (x0 : S2x512x3072.Idx → EReal) (x1 : S2x512x8192.Idx → EReal) (x4 : S3072x16.Idx → EReal) (r : Fin 16) (n : Fin 8192) :
    val_main_v51 (F := Ideal) x0 x1 x4 (ix2 r n) = ∑ t : Fin 1024, hR x0 x4 t r * dyR x1 t n := by
  refine (congrArg₂ (fun a b : EReal => a * b) ((val_main_v50_apply (F := Ideal) (ix2 r n)).trans (v0_at _)) (val_main_v49_apply x0 x1 x4 (ix2 r n))).trans ((one_mul _).trans ?_)
  refine Finset.sum_congr rfl fun t _ => congrArg₂ (fun a b : EReal => a * b) ?_ ?_
  · exact (congrArg (val_main_v39 (F := Ideal) x0 x4) (Shape.idx_ext₂ rfl rfl : lidx_main_v49 (ix2 r n) t = ix2 t r)).trans (v39_at x0 x4 t r)
  · exact (congrArg (val_main_v2 (F := Ideal) x1) (Shape.idx_ext₂ rfl rfl)).trans (v2_at x1 t n)
theorem v52_at (x1 : S2x512x8192.Idx → EReal) (x5 : S16x8192.Idx → EReal) (s : Fin 2) (t : Fin 512) (r : Fin 16) :
    val_main_v52 (F := Ideal) x1 x5 (ix3 s t r) = gR x1 x5 ⟨512 * s.val + t.val, by omega⟩ r := by
  refine (val_main_v52_apply (F := Ideal) x1 x5 (ix3 s t r)).trans ((congrArg (val_main_v37 (F := Ideal) x1 x5) (Shape.idx_ext₂ ?_ ?_)).trans (v37_at x1 x5 ⟨512 * s.val + t.val, by omega⟩ r))
  · show ((s.val * 512 + t.val) * 16 + r.val) / 16 = 512 * s.val + t.val; omega
  · show ((s.val * 512 + t.val) * 16 + r.val) % 16 = r.val; omega
theorem v53_at (x0 : S2x512x3072.Idx → EReal) (x4 : S3072x16.Idx → EReal) (s : Fin 2) (t : Fin 512) (r : Fin 16) :
    val_main_v53 (F := Ideal) x0 x4 (ix3 s t r) = hR x0 x4 ⟨512 * s.val + t.val, by omega⟩ r := by
  refine (val_main_v53_apply (F := Ideal) x0 x4 (ix3 s t r)).trans ((congrArg (val_main_v39 (F := Ideal) x0 x4) (Shape.idx_ext₂ ?_ ?_)).trans (v39_at x0 x4 ⟨512 * s.val + t.val, by omega⟩ r))
  · show ((s.val * 512 + t.val) * 16 + r.val) / 16 = 512 * s.val + t.val; omega
  · show ((s.val * 512 + t.val) * 16 + r.val) % 16 = r.val; omega

/-! ## The weights -/

theorem lo_int : ∀ b : BitVec 8, (Scalar.select (IntOp.cmpi .sge (IntOp.andi (b.setWidth 32) 15#32) 8#32) (IntOp.subi (IntOp.andi (b.setWidth 32) 15#32) 16#32) (IntOp.andi (b.setWidth 32) 15#32)).toInt = (loB b).toInt - 8 := by
  decide +kernel
theorem hi_int : ∀ b : BitVec 8, (Scalar.select (IntOp.cmpi .sge (IntOp.shrsi .host (b.setWidth 32) 4#32) 8#32) (IntOp.subi (IntOp.shrsi .host (b.setWidth 32) 4#32) 16#32) (IntOp.shrsi .host (b.setWidth 32) 4#32)).toInt = (hiB b).toInt - 8 := by
  decide +kernel

theorem code_of_int (z w : Int) (h : z = w - 8) : (((z : ℝ)) : EReal) = ((w : ℝ) : EReal) - ((8 : ℝ) : EReal) := by
  subst h
  rw [← EReal.coe_sub]
  push_cast
  rfl

theorem v18_at (x2 : S8192x1536.Idx → BitVec 8) (i : S8192x1536.Idx) : (val_main_v18 (F := Ideal) x2 i : EReal) = codeLo (x2 i) :=
  code_of_int _ _ (lo_int (x2 i))
theorem v24_at (x2 : S8192x1536.Idx → BitVec 8) (i : S8192x1536.Idx) : (val_main_v24 (F := Ideal) x2 i : EReal) = codeHi (x2 i) :=
  code_of_int _ _ (hi_int (x2 i))

theorem v23_at (x2 : S8192x1536.Idx → BitVec 8) (x3 : S8192x24.Idx → EReal) (n : Fin 8192) (q : Fin 1536) :
    val_main_v23 (F := Ideal) x2 x3 (ix2 n q) = codeLo (x2 (ix2 n q)) * x3 (ix2 n ⟨q.val / 64, by omega⟩) := by
  refine (val_main_v23_apply (F := Ideal) x2 x3 (ix2 n q)).trans (congrArg₂ (fun a b : EReal => a * b) ?_ ?_)
  · refine (val_main_v19_apply (F := Ideal) x2 _).trans ((v18_at x2 _).trans (congrArg (fun i => codeLo (x2 i)) (Shape.idx_ext₂ ?_ ?_)))
    · show (((n.val * 1536 + q.val) / 1536 * 24 + (n.val * 1536 + q.val) / 64 % 24) * 64 + (n.val * 1536 + q.val) % 64) / 1536 = n.val
      omega
    · show (((n.val * 1536 + q.val) / 1536 * 24 + (n.val * 1536 + q.val) / 64 % 24) * 64 + (n.val * 1536 + q.val) % 64) % 1536 = q.val
      omega
  · refine (val_main_v21_apply (F := Ideal) x3 _).trans ((val_main_v20_apply (F := Ideal) x3 _).trans (congrArg x3 (Shape.idx_ext₂ ?_ ?_)))
    · show (n.val * 1536 + q.val) / 1536 = n.val
      omega
    · show (n.val * 1536 + q.val) / 64 % 24 = q.val / 64
      omega
theorem v29_at (x2 : S8192x1536.Idx → BitVec 8) (x3 : S8192x24.Idx → EReal) (n : Fin 8192) (q : Fin 1536) :
    val_main_v29 (F := Ideal) x2 x3 (ix2 n q) = codeHi (x2 (ix2 n q)) * x3 (ix2 n ⟨q.val / 64, by omega⟩) := by
  refine (val_main_v29_apply (F := Ideal) x2 x3 (ix2 n q)).trans (congrArg₂ (fun a b : EReal => a * b) ?_ ?_)
  · refine (val_main_v25_apply (F := Ideal) x2 _).trans ((v24_at x2 _).trans (congrArg (fun i => codeHi (x2 i)) (Shape.idx_ext₂ ?_ ?_)))
    · show (((n.val * 1536 + q.val) / 1536 * 24 + (n.val * 1536 + q.val) / 64 % 24) * 64 + (n.val * 1536 + q.val) % 64) / 1536 = n.val
      omega
    · show (((n.val * 1536 + q.val) / 1536 * 24 + (n.val * 1536 + q.val) / 64 % 24) * 64 + (n.val * 1536 + q.val) % 64) % 1536 = q.val
      omega
  · refine (val_main_v27_apply (F := Ideal) x3 _).trans ((val_main_v26_apply (F := Ideal) x3 _).trans (congrArg x3 (Shape.idx_ext₂ ?_ ?_)))
    · show (n.val * 1536 + q.val) / 1536 = n.val
      omega
    · show (n.val * 1536 + q.val) / 64 % 24 = q.val / 64
      omega
theorem v30_at (x1 : S2x512x8192.Idx → EReal) (x2 : S8192x1536.Idx → BitVec 8) (x3 : S8192x24.Idx → EReal) (t : Fin 1024) (q : Fin 1536) :
    val_main_v30 (F := Ideal) x1 x2 x3 (ix2 t q) = ∑ n : Fin 8192, dyR x1 t n * (codeLo (x2 (ix2 n q)) * x3 (ix2 n ⟨q.val / 64, by omega⟩)) := by
  refine (val_main_v30_apply x1 x2 x3 (ix2 t q)).trans (Finset.sum_congr rfl fun n _ => congrArg₂ (fun a b : EReal => a * b) ?_ ?_)
  · exact (congrArg (val_main_v2 (F := Ideal) x1) (Shape.idx_ext₂ rfl rfl)).trans (v2_at x1 t n)
  · exact (congrArg (val_main_v23 (F := Ideal) x2 x3) (Shape.idx_ext₂ rfl rfl)).trans (v23_at x2 x3 n q)
theorem v31_at (x1 : S2x512x8192.Idx → EReal) (x2 : S8192x1536.Idx → BitVec 8) (x3 : S8192x24.Idx → EReal) (t : Fin 1024) (q : Fin 1536) :
    val_main_v31 (F := Ideal) x1 x2 x3 (ix2 t q) = ∑ n : Fin 8192, dyR x1 t n * (codeHi (x2 (ix2 n q)) * x3 (ix2 n ⟨q.val / 64, by omega⟩)) := by
  refine (val_main_v31_apply x1 x2 x3 (ix2 t q)).trans (Finset.sum_congr rfl fun n _ => congrArg₂ (fun a b : EReal => a * b) ?_ ?_)
  · exact (congrArg (val_main_v2 (F := Ideal) x1) (Shape.idx_ext₂ rfl rfl)).trans (v2_at x1 t n)
  · exact (congrArg (val_main_v29 (F := Ideal) x2 x3) (Shape.idx_ext₂ rfl rfl)).trans (v29_at x2 x3 n q)

/-- The two halves interleaved: even columns are the low codes', odd ones the high codes'. -/
theorem v35_at (x1 : S2x512x8192.Idx → EReal) (x2 : S8192x1536.Idx → BitVec 8) (x3 : S8192x24.Idx → EReal) (t : Fin 1024) (k : Fin 3072) :
    val_main_v35 (F := Ideal) x1 x2 x3 (ix2 t k)
      = if k.val % 2 = 0 then ∑ n : Fin 8192, dyR x1 t n * (codeLo (x2 (ix2 n ⟨k.val / 2, by omega⟩)) * x3 (ix2 n ⟨k.val / 128, by omega⟩))
        else ∑ n : Fin 8192, dyR x1 t n * (codeHi (x2 (ix2 n ⟨k.val / 2, by omega⟩)) * x3 (ix2 n ⟨k.val / 128, by omega⟩)) := by
  have hd : ∀ h, (⟨k.val / 2 / 64, h⟩ : Fin 24) = ⟨k.val / 128, by omega⟩ := fun h => Fin.ext (by show k.val / 2 / 64 = k.val / 128; omega)
  have hk : idx_main_v35 (ix2 t k) = ix3 t ⟨k.val / 2, by omega⟩ ⟨k.val % 2, by omega⟩ := funext fun a => Fin.ext (by
    match a with
    | ⟨0, _⟩ => show (t.val * 3072 + k.val) / 3072 = t.val; omega
    | ⟨1, _⟩ => show (t.val * 3072 + k.val) / 2 % 1536 = k.val / 2; omega
    | ⟨2, _⟩ => show (t.val * 3072 + k.val) % 2 = k.val % 2; omega)
  refine (val_main_v35_apply (F := Ideal) x1 x2 x3 (ix2 t k)).trans ((congrArg (val_main_v34 (F := Ideal) x1 x2 x3) hk).trans ?_)
  unfold val_main_v34
  by_cases he : k.val % 2 = 0
  · rw [if_pos he]
    refine (concatenate_pair_apply_left (t := S1024x1536x2) (s₁ := S1024x1536x1) (s₂ := S1024x1536x1) 2 _ _ _ _ rfl (ix3 t ⟨k.val / 2, by omega⟩ ⟨0, by decide⟩) ?_).trans ?_
    · intro b
      match b with
      | ⟨0, _⟩ => rfl
      | ⟨1, _⟩ => rfl
      | ⟨2, _⟩ => exact he.symm
    · refine (val_main_v32_apply (F := Ideal) x1 x2 x3 _).trans ((congrArg (val_main_v30 (F := Ideal) x1 x2 x3) (Shape.idx_ext₂ rfl rfl)).trans ((v30_at x1 x2 x3 t ⟨k.val / 2, by omega⟩).trans ?_))
      exact Finset.sum_congr rfl fun n _ => by rw [hd]
  · rw [if_neg he]
    refine (concatenate_pair_apply_right (t := S1024x1536x2) (s₁ := S1024x1536x1) (s₂ := S1024x1536x1) 2 _ _ _ _ rfl rfl (ix3 t ⟨k.val / 2, by omega⟩ ⟨0, by decide⟩) ?_ ?_).trans ?_
    · intro b hb
      match b, hb with
      | ⟨0, _⟩, _ => rfl
      | ⟨1, _⟩, _ => rfl
      | ⟨2, _⟩, hb => exact absurd rfl hb
    · show 0 + 1 = k.val % 2
      omega
    · refine (val_main_v33_apply (F := Ideal) x1 x2 x3 _).trans ((congrArg (val_main_v31 (F := Ideal) x1 x2 x3) (Shape.idx_ext₂ rfl rfl)).trans ((v31_at x1 x2 x3 t ⟨k.val / 2, by omega⟩).trans ?_))
      exact Finset.sum_congr rfl fun n _ => by rw [hd]

theorem v44_at (x1 : S2x512x8192.Idx → EReal) (x2 : S8192x1536.Idx → BitVec 8) (x3 : S8192x24.Idx → EReal) (x4 : S3072x16.Idx → EReal) (x5 : S16x8192.Idx → EReal)
    (t : Fin 1024) (k : Fin 3072) : val_main_v44 (F := Ideal) x1 x2 x3 x4 x5 (ix2 t k) = dxR x1 x2 x3 x4 x5 t k := by
  refine congrArg₂ (fun a b : EReal => a + b) (v35_at x1 x2 x3 t k) ?_
  refine (congrArg₂ (fun a b : EReal => a * b) ((val_main_v41_apply (F := Ideal) (ix2 t k)).trans (v0_at _)) (val_main_v40_apply x1 x4 x5 (ix2 t k))).trans ((one_mul _).trans ?_)
  refine Finset.sum_congr rfl fun r _ => congrArg₂ (fun a b : EReal => a * b) ?_ ?_
  · exact (congrArg (val_main_v37 (F := Ideal) x1 x5) (Shape.idx_ext₂ rfl rfl : lidx_main_v40 (ix2 t k) r = ix2 t r)).trans (v37_at x1 x5 t r)
  · exact congrArg x4 (Shape.idx_ext₂ rfl rfl)

theorem v45_at (x1 : S2x512x8192.Idx → EReal) (x2 : S8192x1536.Idx → BitVec 8) (x3 : S8192x24.Idx → EReal) (x4 : S3072x16.Idx → EReal) (x5 : S16x8192.Idx → EReal)
    (s : Fin 2) (t : Fin 512) (k : Fin 3072) : val_main_v45 (F := Ideal) x1 x2 x3 x4 x5 (ix3 s t k) = dxR x1 x2 x3 x4 x5 ⟨512 * s.val + t.val, by omega⟩ k := by
  refine (val_main_v45_apply (F := Ideal) x1 x2 x3 x4 x5 (ix3 s t k)).trans ((congrArg (val_main_v44 (F := Ideal) x1 x2 x3 x4 x5) (Shape.idx_ext₂ ?_ ?_)).trans (v44_at x1 x2 x3 x4 x5 ⟨512 * s.val + t.val, by omega⟩ k))
  · show ((s.val * 512 + t.val) * 3072 + k.val) / 3072 = 512 * s.val + t.val; omega
  · show ((s.val * 512 + t.val) * 3072 + k.val) % 3072 = k.val; omega

end Cert.ReferenceIdeal.At
-- ==== Proof.Value.Equal.lean ====
module

public import proofs.«01_k».proof.Proof.Value.Finals
public import proofs.«01_k».proof.Proof.Value.RefAt

@[expose] public section

/-! # The kernel's five results are the reference's

The arrays the region leaves, put through the operations after it, against the reference's sums.  The
factors of some products come in the other order. -/

set_option maxRecDepth 16384

noncomputable section

namespace Cert.KernelIdeal.Pay

open Idealize.ShloMosaic hiding ix2 ix3
open Idealize.ShloMosaic.TcCoe Idealize.ShloMosaic.Tactic Idealize.SL.Sem
open Idealize.ShloMosaic.ValueIdx
open Idealize.ShloMosaic.Pipeline (Dat Cfg Window)
open Cert.KernelIdeal Cert.KernelIdeal.Gen
open Cert.ReferenceIdeal.At (xR dyR gR hR dxR)
open Cert.ReferenceIdeal.Read (val_main_v45 val_main_v48 val_main_v51 val_main_v52 val_main_v53)
open scoped BigOperators

variable (m : (ℓ : Loc nD τ sig) → Buf (Elt Ideal) ℓ) (ρ : Dev nD → PrngReg)

/-- The arguments as arrays. -/
abbrev a0 (c : Dev nD) : S2x512x3072.Idx → EReal := m ((c : Thread nD τ).loc main_arg0)
abbrev a1 (c : Dev nD) : S2x512x8192.Idx → EReal := m ((c : Thread nD τ).loc main_arg1)
abbrev a2 (c : Dev nD) : S8192x1536.Idx → BitVec 8 := m ((c : Thread nD τ).loc main_arg2)
abbrev a3 (c : Dev nD) : S8192x24.Idx → EReal := m ((c : Thread nD τ).loc main_arg3)
abbrev a4 (c : Dev nD) : S3072x16.Idx → EReal := m ((c : Thread nD τ).loc main_arg4)
abbrev a5 (c : Dev nD) : S16x8192.Idx → EReal := m ((c : Thread nD τ).loc main_arg5)

theorem gt_eq (c : Dev nD) (r : Fin 16) (t : Fin 1024) : gtV m c r t = gR (a1 m c) (a5 m c) t r := by
  unfold gtV gtOf gR
  exact Finset.sum_congr rfl fun n _ => (congrArg₂ (fun a b : EReal => a * b) (congrFun (V_main_arg5 m c) (ix2 r n)) (V_main_v5_apply m c t n)).trans (mul_comm _ _)
theorem xat_eq (c : Dev nD) (r : Fin 16) (t : Fin 1024) : xatV m c r t = hR (a0 m c) (a4 m c) t r := by
  unfold xatV xatOf hR
  exact Finset.sum_congr rfl fun n _ => (congrArg₂ (fun a b : EReal => a * b) (V_main_v0_apply m c r n) (V_main_v4_apply m c t n)).trans (mul_comm _ _)
theorem dat_eq (c : Dev nD) (r : Fin 16) (k : Fin 3072) :
    datOf (gtV m c) (V m c main_v4) r k = ∑ t : Fin 1024, xR (a0 m c) t k * gR (a1 m c) (a5 m c) t r :=
  Finset.sum_congr rfl fun t _ => (congrArg₂ (fun a b : EReal => a * b) (gt_eq m c r t) (V_main_v4_apply m c t k)).trans (mul_comm _ _)
theorem db_eq (c : Dev nD) (r : Fin 16) (n : Fin 8192) :
    dbOf (xatV m c) (V m c main_v5) r n = ∑ t : Fin 1024, hR (a0 m c) (a4 m c) t r * dyR (a1 m c) t n :=
  Finset.sum_congr rfl fun t _ => congrArg₂ (fun a b : EReal => a * b) (xat_eq m c r t) (V_main_v5_apply m c t n)

/-- The scale of a column's group. -/
theorem scale_eq (c : Dev nD) (n : Fin 8192) (j : Fin 6) (k : Fin 512) (h : 4 * j.val + k.val / 2 / 64 < 128) :
    stS (V m c main_v6) (ix2 n ⟨4 * j.val + k.val / 2 / 64, h⟩) = a3 m c (ix2 n ⟨(512 * j.val + k.val) / 128, by omega⟩) := by
  unfold stS
  refine (dif_pos (show 4 * j.val + k.val / 2 / 64 < 24 by omega)).trans ((V_main_v6_apply m c _ _).trans (congrArg (a3 m c) (Shape.idx_ext₂ rfl ?_)))
  show 4 * j.val + k.val / 2 / 64 = (512 * j.val + k.val) / 128
  omega

/-- The low-rank part of the gradient. -/
theorem low_eq (c : Dev nD) (t : Fin 1024) (j : Fin 6) (k : Fin 512) (p : Fin 2) (hp : k.val % 2 = p.val) (r : Fin 16) (q : Fin 3072)
    (hq : q.val = 512 * j.val + (256 * p.val + k.val / 2)) :
    gtV m c r t * (V m c main_v3 : S16x3072.Idx → EReal) (ix2 r q) = gR (a1 m c) (a5 m c) t r * a4 m c (ix2 ⟨512 * j.val + k.val, by omega⟩ r) := by
  refine congrArg₂ (fun a b : EReal => a * b) (gt_eq m c r t) ?_
  refine (congrArg (V m c main_v3 : S16x3072.Idx → EReal) (Shape.idx_ext₂ rfl ?_ : ix2 r q = ix2 r ⟨512 * j.val + 256 * p.val + (⟨k.val / 2, by omega⟩ : Fin 256).val, by have := p.isLt; have := j.isLt; have := k.isLt; show 512 * j.val + 256 * p.val + k.val / 2 < 3072; omega⟩)).trans ((V_main_v3_apply m c r j p ⟨k.val / 2, by omega⟩).trans (congrArg (a4 m c) (Shape.idx_ext₂ ?_ rfl)))
  · show q.val = 512 * j.val + 256 * p.val + k.val / 2
    omega
  · show 512 * j.val + 2 * (k.val / 2) + p.val = 512 * j.val + k.val
    omega

theorem dx_eq (c : Dev nD) (j : Fin 6) (t : Fin 1024) (k : Fin 512) :
    dxV m c j t k = dxR (a1 m c) (a2 m c) (a3 m c) (a4 m c) (a5 m c) t ⟨512 * j.val + k.val, by omega⟩ := by
  have hj := j.isLt
  have hk := k.isLt
  unfold dxV dxTile dxR
  by_cases he : k.val % 2 = 0
  · rw [if_pos he, if_pos (by show (512 * j.val + k.val) % 2 = 0; omega), accSum_all]
    refine congrArg₂ (fun a b : EReal => a + b) (Finset.sum_congr rfl fun n _ => congrArg₂ (fun a b : EReal => a * b) (V_main_v5_apply m c t n)
      (congrArg₂ (fun a b : EReal => a * b) (congrArg codeLo ?_) (scale_eq m c n j k _))) (Finset.sum_congr rfl fun r _ => low_eq m c t j k 0 (by show k.val % 2 = 0; omega) r _ (by
        show 512 * j.val + k.val / 2 = 512 * j.val + (256 * 0 + k.val / 2)
        omega))
    refine (congrFun (V_main_arg2 m c) _).trans (congrArg (a2 m c) (Shape.idx_ext₂ rfl ?_))
    show 256 * j.val + k.val / 2 = (512 * j.val + k.val) / 2
    omega
  · rw [if_neg he, if_neg (by show ¬(512 * j.val + k.val) % 2 = 0; omega), accSum_all]
    refine congrArg₂ (fun a b : EReal => a + b) (Finset.sum_congr rfl fun n _ => congrArg₂ (fun a b : EReal => a * b) (V_main_v5_apply m c t n)
      (congrArg₂ (fun a b : EReal => a * b) (congrArg codeHi ?_) (scale_eq m c n j k _))) (Finset.sum_congr rfl fun r _ => low_eq m c t j k 1 (by show k.val % 2 = 1; omega) r _ (by
        show 512 * j.val + (256 + k.val / 2) = 512 * j.val + (256 * 1 + k.val / 2)
        omega))
    refine (congrFun (V_main_arg2 m c) _).trans (congrArg (a2 m c) (Shape.idx_ext₂ rfl ?_))
    show 256 * j.val + k.val / 2 = (512 * j.val + k.val) / 2
    omega

/-! ## The operations after the region -/

theorem arrRef_inj : Function.Injective (Pipeline.arrRef spec0) := by decide

theorem tail_read (c : Dev nD) (w : Fin 12) :
    Pipeline.withArrays (cfgs 0).spec c (V0 m c) (fun w => (dats m 0 c).arrAt w (cfgs 0).N) (Proc.devRef .tc (Pipeline.arrRef spec0 w)) = (dats m 0 c).arrAt w cfg0.N :=
  Pipeline.withArrays_arr spec0 arrRef_inj c (V0 m c) (fun w => (dats m 0 c).arrAt w (cfgs 0).N) w

abbrev tail (c : Dev nD) := Pipeline.afterTail₀ cfgs (dats m) 0 (V0 m) [hostOps1] c

theorem tail_8 (c : Dev nD) : (tail m c main_v8 : S2x512x3072.Idx → EReal) = shapeCast S2x512x3072 ((dats m 0 c).arrAt 7 cfg0.N : S1024x3072.Idx → EReal) shapeCasts_S1024x3072_S2x512x3072 := by
  have e := tail_read m c 7
  show StableHlo.after hostOps1 (Pipeline.withArrays (cfgs 0).spec c (V0 m c) fun w => (dats m 0 c).arrAt w (cfgs 0).N) (Proc.devRef .tc main_v8) = _
  generalize Pipeline.withArrays (cfgs 0).spec c (V0 m c) (fun w => (dats m 0 c).arrAt w (cfgs 0).N) = W at e ⊢
  rw [← e]
  after_results
  all_goals rfl
theorem tail_9 (c : Dev nD) : (tail m c main_v9 : S3072x16.Idx → EReal) = transpose S3072x16 [1, 0] ((dats m 0 c).arrAt 8 cfg0.N : S16x3072.Idx → EReal) transposes_S16x3072_S3072x16_1_0 := by
  have e := tail_read m c 8
  show StableHlo.after hostOps1 (Pipeline.withArrays (cfgs 0).spec c (V0 m c) fun w => (dats m 0 c).arrAt w (cfgs 0).N) (Proc.devRef .tc main_v9) = _
  generalize Pipeline.withArrays (cfgs 0).spec c (V0 m c) (fun w => (dats m 0 c).arrAt w (cfgs 0).N) = W at e ⊢
  rw [← e]
  after_results
  all_goals rfl
theorem tail_11 (c : Dev nD) : (tail m c main_v11 : S2x512x16.Idx → EReal) = shapeCast S2x512x16 (transpose S1024x16 [1, 0] ((dats m 0 c).arrAt 10 cfg0.N : S16x1024.Idx → EReal) transposes_S16x1024_S1024x16_1_0) shapeCasts_S1024x16_S2x512x16 := by
  have e := tail_read m c 10
  show StableHlo.after hostOps1 (Pipeline.withArrays (cfgs 0).spec c (V0 m c) fun w => (dats m 0 c).arrAt w (cfgs 0).N) (Proc.devRef .tc main_v11) = _
  generalize Pipeline.withArrays (cfgs 0).spec c (V0 m c) (fun w => (dats m 0 c).arrAt w (cfgs 0).N) = W at e ⊢
  rw [← e]
  after_results
  all_goals rfl
theorem tail_13 (c : Dev nD) : (tail m c main_v13 : S2x512x16.Idx → EReal) = shapeCast S2x512x16 (transpose S1024x16 [1, 0] ((dats m 0 c).arrAt 11 cfg0.N : S16x1024.Idx → EReal) transposes_S16x1024_S1024x16_1_0) shapeCasts_S1024x16_S2x512x16 := by
  have e := tail_read m c 11
  show StableHlo.after hostOps1 (Pipeline.withArrays (cfgs 0).spec c (V0 m c) fun w => (dats m 0 c).arrAt w (cfgs 0).N) (Proc.devRef .tc main_v13) = _
  generalize Pipeline.withArrays (cfgs 0).spec c (V0 m c) (fun w => (dats m 0 c).arrAt w (cfgs 0).N) = W at e ⊢
  rw [← e]
  after_results
  all_goals rfl

/-- The transposed rows of two sequences, at a position. -/
theorem rows_at (f : S16x1024.Idx → EReal) (s : Fin 2) (t : Fin 512) (r : Fin 16) :
    shapeCast S2x512x16 (transpose S1024x16 [1, 0] f transposes_S16x1024_S1024x16_1_0) shapeCasts_S1024x16_S2x512x16 (ix3 s t r)
      = f (ix2 r ⟨512 * s.val + t.val, by omega⟩) := by
  refine (shapeCast_apply _ _ _ (ix2 ⟨512 * s.val + t.val, by omega⟩ r) ((rm2 (n0 := 1024) (n1 := 16) ⟨512 * s.val + t.val, by omega⟩ r).trans (Eq.trans ?_ (rm3 (n0 := 2) (n1 := 512) (n2 := 16) s t r).symm))).trans ?_
  · show (512 * s.val + t.val) * 16 + r.val = s.val * (512 * 16) + t.val * 16 + r.val
    omega
  refine transpose_apply _ _ _ _ (ix2 r ⟨512 * s.val + t.val, by omega⟩) ?_
  intro b
  match b with
  | ⟨0, _⟩ => rfl
  | ⟨1, _⟩ => rfl

theorem res_8 (c : Dev nD) : (tail m c main_v8 : S2x512x3072.Idx → EReal) = val_main_v45 (F := Ideal) (a1 m c) (a2 m c) (a3 m c) (a4 m c) (a5 m c) := by
  refine (tail_8 m c).trans (funext fun y => ?_)
  obtain ⟨s, t, k, rfl⟩ : ∃ s t k, y = ix3 s t k := ⟨_, _, _, ValueIdx.eq_ix3 y⟩
  have hs := s.isLt
  have ht := t.isLt
  have hk := k.isLt
  refine Eq.trans ?_ (Cert.ReferenceIdeal.At.v45_at (a1 m c) (a2 m c) (a3 m c) (a4 m c) (a5 m c) s t k).symm
  refine (shapeCast_apply _ _ _ (ix2 ⟨512 * s.val + t.val, by omega⟩ k) ((rm2 (n0 := 1024) (n1 := 3072) ⟨512 * s.val + t.val, by omega⟩ k).trans (Eq.trans ?_ (rm3 (n0 := 2) (n1 := 512) (n2 := 3072) s t k).symm))).trans ?_
  · show (512 * s.val + t.val) * 3072 + k.val = s.val * (512 * 3072) + t.val * 3072 + k.val
    omega
  refine (congrFun (final_7 m c) _).trans ((dx_eq m c ⟨k.val / 512, by omega⟩ ⟨512 * s.val + t.val, by omega⟩ ⟨k.val % 512, by omega⟩).trans ?_)
  refine congrArg (dxR (a1 m c) (a2 m c) (a3 m c) (a4 m c) (a5 m c) ⟨512 * s.val + t.val, by omega⟩) (Fin.ext ?_)
  show 512 * (k.val / 512) + k.val % 512 = k.val
  omega

theorem res_9 (c : Dev nD) : (tail m c main_v9 : S3072x16.Idx → EReal) = val_main_v48 (F := Ideal) (a0 m c) (a1 m c) (a5 m c) := by
  refine (tail_9 m c).trans (funext fun y => ?_)
  obtain ⟨k, r, rfl⟩ : ∃ k r, y = ix2 k r := ⟨_, _, ValueIdx.eq_ix2 y⟩
  refine Eq.trans ?_ (Cert.ReferenceIdeal.At.v48_at (a0 m c) (a1 m c) (a5 m c) k r).symm
  refine (transpose_apply _ _ _ _ (ix2 r k) ?_).trans ?_
  · intro b
    match b with
    | ⟨0, _⟩ => rfl
    | ⟨1, _⟩ => rfl
  exact (congrFun (final_8 m c) _).trans ((first_8 m c r k).trans (dat_eq m c r k))

theorem res_7_2 (c : Dev nD) : ((dats m 0 c).arrAt 9 cfg0.N : S16x8192.Idx → EReal) = val_main_v51 (F := Ideal) (a0 m c) (a1 m c) (a4 m c) := by
  refine (final_9 m c).trans (funext fun y => ?_)
  obtain ⟨r, n, rfl⟩ : ∃ r n, y = ix2 r n := ⟨_, _, ValueIdx.eq_ix2 y⟩
  exact (first_9 m c r n).trans ((db_eq m c r n).trans (Cert.ReferenceIdeal.At.v51_at (a0 m c) (a1 m c) (a4 m c) r n).symm)

theorem res_11 (c : Dev nD) : (tail m c main_v11 : S2x512x16.Idx → EReal) = val_main_v52 (F := Ideal) (a1 m c) (a5 m c) := by
  refine (tail_11 m c).trans (funext fun y => ?_)
  obtain ⟨s, t, r, rfl⟩ : ∃ s t r, y = ix3 s t r := ⟨_, _, _, ValueIdx.eq_ix3 y⟩
  refine (rows_at _ s t r).trans (Eq.trans ?_ (Cert.ReferenceIdeal.At.v52_at (a1 m c) (a5 m c) s t r).symm)
  exact (congrFun (final_10 m c) _).trans ((first_10 m c r _).trans (gt_eq m c r _))

theorem res_13 (c : Dev nD) : (tail m c main_v13 : S2x512x16.Idx → EReal) = val_main_v53 (F := Ideal) (a0 m c) (a4 m c) := by
  refine (tail_13 m c).trans (funext fun y => ?_)
  obtain ⟨s, t, r, rfl⟩ : ∃ s t r, y = ix3 s t r := ⟨_, _, _, ValueIdx.eq_ix3 y⟩
  refine (rows_at _ s t r).trans (Eq.trans ?_ (Cert.ReferenceIdeal.At.v53_at (a0 m c) (a4 m c) s t r).symm)
  exact (congrFun (final_11 m c) _).trans ((first_11 m c r _).trans (xat_eq m c r _))

/-! ## The run -/

/-- The kernel over the extended reals ends with the reference's five results and its arguments unchanged. -/
theorem run_values : θ_run (defs (F := Ideal)) (onTc (τ := τ) (main (F := Ideal))) ⟨m, fun _ => 0, ρ⟩ (fun r => ∀ c : Dev nD,
    r.2.mem ((c.tc : Thread nD τ).loc main_v8) = val_main_v45 (F := Ideal) (a1 m c) (a2 m c) (a3 m c) (a4 m c) (a5 m c)
    ∧ r.2.mem ((c.tc : Thread nD τ).loc main_v9) = val_main_v48 (F := Ideal) (a0 m c) (a1 m c) (a5 m c)
    ∧ r.2.mem ((c.tc : Thread nD τ).loc main_v7_2) = val_main_v51 (F := Ideal) (a0 m c) (a1 m c) (a4 m c)
    ∧ r.2.mem ((c.tc : Thread nD τ).loc main_v11) = val_main_v52 (F := Ideal) (a1 m c) (a5 m c)
    ∧ r.2.mem ((c.tc : Thread nD τ).loc main_v13) = val_main_v53 (F := Ideal) (a0 m c) (a4 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c => ⟨
      ((h c).2 main_v8 (Pipeline.mem_restRefs_of main_v8 (by decide) (by decide))).trans (res_8 m c),
      ((h c).2 main_v9 (Pipeline.mem_restRefs_of main_v9 (by decide) (by decide))).trans (res_9 m c),
      ((h c).1 9).trans (res_7_2 m c),
      ((h c).2 main_v11 (Pipeline.mem_restRefs_of main_v11 (by decide) (by decide))).trans (res_11 m c),
      ((h c).2 main_v13 (Pipeline.mem_restRefs_of main_v13 (by decide) (by decide))).trans (res_13 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c)))⟩) (run_main m ρ)

end Cert.KernelIdeal.Pay
-- ==== Proof.lean ====
/- The claims about the kernel, its reading over the extended reals and the reference, put together. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ideal.Frame
public import proofs.«01_k».proof.Proof.Ideal.Same
public import proofs.«01_k».proof.Proof.Value.Equal
public import proofs.«01_k».proof.Proof.Gen.ReferenceIdeal
public import proofs.«01_k».proof.Proof.Gen.ReferenceIdeal.Read
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The reference terminates with its arguments unchanged; it declares no semaphore. -/
theorem frame_r : Cert.quiescent_ReferenceIdeal := fun m ρ _ =>
  (θ_run _ _ _).mono (fun r h => ⟨fun c => (h c).2.2.2.2.2, Idealize.ShloMosaic.sem_eq_zero_of_no_sems (by decide) r.2⟩) (Cert.ReferenceIdeal.Value.run m ρ)

/-- The kernel as printed is the text the frame is proved for, read at bit patterns. -/
theorem frame_k : Cert.quiescent_Kernel := fun m ρ _ => by
  have h := Cert.KernelIdeal.Gen.frame (F := Bits) m ρ
  rw [defs_eq, main_eq]
  exact h

/-- Over the extended reals the kernel's five results are the reference's. -/
theorem algebraic : Cert.algebraic_KernelIdeal_ReferenceIdeal := fun m g m' g' _ hargs => by
  refine ⟨_, _, _, _, _, Cert.KernelIdeal.Pay.run_values m g, ?_⟩
  refine (θ_run _ _ _).mono (fun r h c => ?_) (Cert.ReferenceIdeal.Value.run m' g')
  obtain ⟨h45, h48, h51, h52, h53, hrest⟩ := h c
  obtain ⟨e0, e1, e2, e3, e4, e5⟩ := hargs c
  refine ⟨h45.trans ?_, h48.trans ?_, h51.trans ?_, h52.trans ?_, h53.trans ?_, hrest⟩
  · rw [e1, e2, e3, e4, e5]
    exact Cert.ReferenceIdeal.Read.val_main_v45_eq _ _ _ _ _
  · rw [e0, e1, e5]
    exact Cert.ReferenceIdeal.Read.val_main_v48_eq _ _ _
  · rw [e0, e1, e4]
    exact Cert.ReferenceIdeal.Read.val_main_v51_eq _ _ _
  · rw [e1, e5]
    exact Cert.ReferenceIdeal.Read.val_main_v52_eq _ _
  · rw [e0, e4]
    exact Cert.ReferenceIdeal.Read.val_main_v53_eq _ _

theorem claim : Cert.Claim := ⟨Cert.Kernel.Gen.facts, Cert.KernelIdeal.Gen.facts, Cert.ReferenceIdeal.Gen.facts,
  frame_k, fun m ρ _ => Cert.KernelIdeal.Gen.frame m ρ, frame_r, trivial, algebraic⟩

end Cert.Proof

end
